-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 256, 512]⟩ ⟨3, ![32, 256, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = Layout.block ⟨3, ![2, 256, 512]⟩ ⟨3, ![32, 256, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x512 : Shape := ⟨3, ![2, 256, 512]⟩
abbrev S512x256 : Shape := ⟨2, ![512, 256]⟩
abbrev S32x256x64x64 : Shape := ⟨4, ![32, 256, 64, 64]⟩
abbrev S256x512 : Shape := ⟨2, ![256, 512]⟩
abbrev S_ : Shape := ⟨0, ![]⟩
abbrev S2x256x64x64 : Shape := ⟨4, ![2, 256, 64, 64]⟩
abbrev S2x64x256x64 : Shape := ⟨4, ![2, 64, 256, 64]⟩
abbrev S512x4096 : Shape := ⟨2, ![512, 4096]⟩
abbrev S4096x512 : Shape := ⟨2, ![4096, 512]⟩
abbrev S256x256 : Shape := ⟨2, ![256, 256]⟩
abbrev S4 : Shape := ⟨1, ![4]⟩
abbrev S2x4 : Shape := ⟨2, ![2, 4]⟩
abbrev S1 : Shape := ⟨1, ![1]⟩
abbrev S1x1 : Shape := ⟨2, ![1, 1]⟩
abbrev S1x256x512 : Shape := ⟨3, ![1, 256, 512]⟩
abbrev S256x64 : Shape := ⟨2, ![256, 64]⟩
abbrev S1x1x256x64 : Shape := ⟨4, ![1, 1, 256, 64]⟩
abbrev S256 : Shape := ⟨1, ![256]⟩
abbrev S256x1 : Shape := ⟨2, ![256, 1]⟩

abbrev nBuf : Space → Nat
  | .hbm => 41
  | .vmem => 9
  | .smem => 0
  | _ => 0

abbrev bufTy : (tb : Table) → Fin (tcTables nBuf tb) → BufTy
  | .hbm, ⟨0, _⟩ => ⟨S2x256x512, .f32⟩
  | .hbm, ⟨1, _⟩ => ⟨S512x256, .f32⟩
  | .hbm, ⟨2, _⟩ => ⟨S32x256x64x64, .f32⟩
  | .hbm, ⟨3, _⟩ => ⟨S32x256x64x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x256x64x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x256x64x64, .f32⟩
  | .hbm, ⟨33, _⟩ => ⟨S2x64x256x64, .f32⟩
  | .hbm, ⟨34, _⟩ => ⟨S2x64x256x64, .bf16⟩
  | .hbm, ⟨35, _⟩ => ⟨S2x64x256x64, .f32⟩
  | .hbm, ⟨36, _⟩ => ⟨S2x64x256x64, .bf16⟩
  | .hbm, ⟨37, _⟩ => ⟨S2x256x512, .bf16⟩
  | .hbm, ⟨38, _⟩ => ⟨S512x256, .bf16⟩
  | .hbm, ⟨39, _⟩ => ⟨S256x512, .bf16⟩
  | .hbm, ⟨40, _⟩ => ⟨S2x256x512, .f32⟩
  | .local _ .vmem, ⟨0, _⟩ => ⟨S2x256x512, .bf16⟩
  | .local _ .vmem, ⟨1, _⟩ => ⟨S512x256, .bf16⟩
  | .local _ .vmem, ⟨2, _⟩ => ⟨S256x512, .bf16⟩
  | .local _ .vmem, ⟨3, _⟩ => ⟨S2x64x256x64, .bf16⟩
  | .local _ .vmem, ⟨4, _⟩ => ⟨S2x64x256x64, .bf16⟩
  | .local _ .vmem, ⟨5, _⟩ => ⟨S2x256x512, .f32⟩
  | .local _ .vmem, ⟨6, _⟩ => ⟨S512x4096, .bf16⟩
  | .local _ .vmem, ⟨7, _⟩ => ⟨S4096x512, .bf16⟩
  | .local _ .vmem, ⟨8, _⟩ => ⟨S256x256, .bf16⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  (ofTc nBuf bufTy 1 86 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_16 : BitVec 32 := 4#32
  let v68 : BitVec 32 := Scalar.addi v2 c4_i32_16
  let c16_i32_17 : BitVec 32 := 16#32
  let v69 : BitVec 32 := Scalar.remsi v68 c16_i32_17
  let c1_i32_21 : BitVec 32 := 1#32
  let v75 : BitVec 32 := Scalar.muli v69 c1_i32_21
  let v76 : BitVec 32 := Scalar.addi c0_i32_22 v75
  v76.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v70 : BitVec 32 := Scalar.addi v2 c8_i32
  let c16_i32_18 : BitVec 32 := 16#32
  let v71 : BitVec 32 := Scalar.remsi v70 c16_i32_18
  let c1_i32_24 : BitVec 32 := 1#32
  let v77 : BitVec 32 := Scalar.muli v71 c1_i32_24
  let v78 : BitVec 32 := Scalar.addi c0_i32_25 v77
  v78.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v72 : BitVec 32 := Scalar.addi v2 c12_i32
  let c16_i32_19 : BitVec 32 := 16#32
  let v73 : BitVec 32 := Scalar.remsi v72 c16_i32_19
  let c1_i32_27 : BitVec 32 := 1#32
  let v79 : BitVec 32 := Scalar.muli v73 c1_i32_27
  let v80 : BitVec 32 := Scalar.addi c0_i32_28 v79
  v80.toNat
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v11 : BitVec 32 := Scalar.addi v4 v8
  let c1_i32_30 : BitVec 32 := 1#32
  let v81 : BitVec 32 := Scalar.muli v11 c1_i32_30
  let v82 : BitVec 32 := Scalar.addi c0_i32_31 v81
  v82.toNat
def k0_dev5 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.subi c3_i32 v3
  let v12 : BitVec 32 := Scalar.addi v4 v9
  let c1_i32_33 : BitVec 32 := 1#32
  let v83 : BitVec 32 := Scalar.muli v12 c1_i32_33
  let v84 : BitVec 32 := Scalar.addi c0_i32_34 v83
  v84.toNat
def k0_off1 (d0 : Dev nD) : Fin 2 → Nat :=
  let c0_36 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v87 : BitVec 32 := Scalar.muli v2 c256_i32
  let v88 : Index := Scalar.indexCast v87
  ![0, v88.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_39 : BitVec 32 := 256#32
  let v94 : BitVec 32 := Scalar.muli v2 c256_i32_39
  let v95 : Index := Scalar.indexCast v94
  let c0_40 : Index := 0#32
  ![v95.toNat, 0]
def k0_off3 (d0 : Dev nD) : Fin 2 → Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_44 : BitVec 32 := 256#32
  let v102 : BitVec 32 := Scalar.muli v2 c256_i32_44
  ![0, v102.toNat]
def k0_dev6 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_41 : BitVec 32 := 4#32
  let v99 : BitVec 32 := Scalar.addi v2 c4_i32_41
  let c16_i32_42 : BitVec 32 := 16#32
  let v100 : BitVec 32 := Scalar.remsi v99 c16_i32_42
  let c1_i32_49 : BitVec 32 := 1#32
  let v105 : BitVec 32 := Scalar.muli v100 c1_i32_49
  let v106 : BitVec 32 := Scalar.addi c0_i32_50 v105
  v106.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_46 : BitVec 32 := 256#32
  let v104 : BitVec 32 := Scalar.muli v2 c256_i32_46
  let c0_i32_57 : BitVec 32 := 0#32
  ![v104.toNat, 0]
def k0_dev7 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_41 : BitVec 32 := 4#32
  let v99 : BitVec 32 := Scalar.addi v2 c4_i32_41
  let c16_i32_42 : BitVec 32 := 16#32
  let v100 : BitVec 32 := Scalar.remsi v99 c16_i32_42
  let c1_i32_55 : BitVec 32 := 1#32
  let v113 : BitVec 32 := Scalar.muli v100 c1_i32_55
  let v114 : BitVec 32 := Scalar.addi c0_i32_56 v113
  v114.toNat
def k0_dev8 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_59 : BitVec 32 := 8#32
  let v121 : BitVec 32 := Scalar.addi v2 c8_i32_59
  let c16_i32_60 : BitVec 32 := 16#32
  let v122 : BitVec 32 := Scalar.remsi v121 c16_i32_60
  let c1_i32_67 : BitVec 32 := 1#32
  let v127 : BitVec 32 := Scalar.muli v122 c1_i32_67
  let v128 : BitVec 32 := Scalar.addi c0_i32_68 v127
  v128.toNat
def k0_dev9 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_59 : BitVec 32 := 8#32
  let v121 : BitVec 32 := Scalar.addi v2 c8_i32_59
  let c16_i32_60 : BitVec 32 := 16#32
  let v122 : BitVec 32 := Scalar.remsi v121 c16_i32_60
  let c1_i32_73 : BitVec 32 := 1#32
  let v135 : BitVec 32 := Scalar.muli v122 c1_i32_73
  let v136 : BitVec 32 := Scalar.addi c0_i32_74 v135
  v136.toNat
def k0_dev10 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_77 : BitVec 32 := 12#32
  let v143 : BitVec 32 := Scalar.addi v2 c12_i32_77
  let c16_i32_78 : BitVec 32 := 16#32
  let v144 : BitVec 32 := Scalar.remsi v143 c16_i32_78
  let c1_i32_85 : BitVec 32 := 1#32
  let v149 : BitVec 32 := Scalar.muli v144 c1_i32_85
  let v150 : BitVec 32 := Scalar.addi c0_i32_86 v149
  v150.toNat
def k0_dev11 (d0 : Dev nD) : Nat :=
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_77 : BitVec 32 := 12#32
  let v143 : BitVec 32 := Scalar.addi v2 c12_i32_77
  let c16_i32_78 : BitVec 32 := 16#32
  let v144 : BitVec 32 := Scalar.remsi v143 c16_i32_78
  let c1_i32_91 : BitVec 32 := 1#32
  let v157 : BitVec 32 := Scalar.muli v144 c1_i32_91
  let v158 : BitVec 32 := Scalar.addi c0_i32_92 v157
  v158.toNat
def k0_dev12 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v11 : BitVec 32 := Scalar.addi v4 v8
  let c1_i32_103 : BitVec 32 := 1#32
  let v169 : BitVec 32 := Scalar.muli v11 c1_i32_103
  let v170 : BitVec 32 := Scalar.addi c0_i32_104 v169
  v170.toNat
def k0_dev13 (d0 : Dev nD) : Nat :=
  let c0_i32_112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v11 : BitVec 32 := Scalar.addi v4 v8
  let c1_i32_111 : BitVec 32 := 1#32
  let v177 : BitVec 32 := Scalar.muli v11 c1_i32_111
  let v178 : BitVec 32 := Scalar.addi c0_i32_112 v177
  v178.toNat
def k0_dev14 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.subi c3_i32 v3
  let v12 : BitVec 32 := Scalar.addi v4 v9
  let c1_i32_123 : BitVec 32 := 1#32
  let v189 : BitVec 32 := Scalar.muli v12 c1_i32_123
  let v190 : BitVec 32 := Scalar.addi c0_i32_124 v189
  v190.toNat
def k0_dev15 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.subi c3_i32 v3
  let v12 : BitVec 32 := Scalar.addi v4 v9
  let c1_i32_131 : BitVec 32 := 1#32
  let v197 : BitVec 32 := Scalar.muli v12 c1_i32_131
  let v198 : BitVec 32 := Scalar.addi c0_i32_132 v197
  v198.toNat
def k0_off5 (d0 : Dev nD) (c0_i32_142 : BitVec 32) : Fin 4 → Nat :=
  let c0_143 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_141 : BitVec 32 := 4#32
  let v212 : BitVec 32 := Scalar.muli v2 c4_i32_141
  let v213 : BitVec 32 := Scalar.addi v212 c0_i32_142
  let v215 : Index := Scalar.indexCast v213
  let c0_144 : Index := 0#32
  let c0_145 : Index := 0#32
  ![0, v215.toNat, 0, 0]
def k0_off6 (d0 : Dev nD) (c0_i32_212 : BitVec 32) : Fin 4 → Nat :=
  let c1_213 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_211 : BitVec 32 := 4#32
  let v339 : BitVec 32 := Scalar.muli v2 c4_i32_211
  let v340 : BitVec 32 := Scalar.addi v339 c0_i32_212
  let v342 : Index := Scalar.indexCast v340
  let c0_214 : Index := 0#32
  let c0_215 : Index := 0#32
  ![1, v342.toNat, 0, 0]
def k0_off7 (d0 : Dev nD) : Fin 2 → Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v11 : BitVec 32 := Scalar.addi v4 v8
  let c256_i32_280 : BitVec 32 := 256#32
  let v460 : BitVec 32 := Scalar.muli v11 c256_i32_280
  ![0, v460.toNat]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v11 : BitVec 32 := Scalar.addi v4 v8
  let c256_i32_282 : BitVec 32 := 256#32
  let v462 : BitVec 32 := Scalar.muli v11 c256_i32_282
  let c0_i32_297 : BitVec 32 := 0#32
  ![v462.toNat, 0]
def k0_off9 (d0 : Dev nD) : Fin 2 → Nat :=
  let c0_303 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v11 : BitVec 32 := Scalar.addi v4 v8
  let c256_i32_302 : BitVec 32 := 256#32
  let v477 : BitVec 32 := Scalar.muli v11 c256_i32_302
  let v478 : Index := Scalar.indexCast v477
  ![0, v478.toNat]
def k0_off10 (d0 : Dev nD) (c0_i32_306 : BitVec 32) : Fin 4 → Nat :=
  let c0_307 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v11 : BitVec 32 := Scalar.addi v4 v8
  let c4_i32_305 : BitVec 32 := 4#32
  let v482 : BitVec 32 := Scalar.muli v11 c4_i32_305
  let v483 : BitVec 32 := Scalar.addi v482 c0_i32_306
  let v485 : Index := Scalar.indexCast v483
  let c0_308 : Index := 0#32
  let c0_309 : Index := 0#32
  ![0, v485.toNat, 0, 0]
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v11 : BitVec 32 := Scalar.addi v4 v8
  let c256_i32_367 : BitVec 32 := 256#32
  let v595 : BitVec 32 := Scalar.muli v11 c256_i32_367
  let v596 : Index := Scalar.indexCast v595
  let c0_368 : Index := 0#32
  ![v596.toNat, 0]
def k0_off12 (d0 : Dev nD) (c0_i32_383 : BitVec 32) : Fin 4 → Nat :=
  let c1_384 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v11 : BitVec 32 := Scalar.addi v4 v8
  let c4_i32_382 : BitVec 32 := 4#32
  let v612 : BitVec 32 := Scalar.muli v11 c4_i32_382
  let v613 : BitVec 32 := Scalar.addi v612 c0_i32_383
  let v615 : Index := Scalar.indexCast v613
  let c0_385 : Index := 0#32
  let c0_386 : Index := 0#32
  ![1, v615.toNat, 0, 0]
def k0_off13 (d0 : Dev nD) : Fin 2 → Nat :=
  let c0_i32_463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.subi c3_i32 v3
  let v12 : BitVec 32 := Scalar.addi v4 v9
  let c256_i32_454 : BitVec 32 := 256#32
  let v736 : BitVec 32 := Scalar.muli v12 c256_i32_454
  ![0, v736.toNat]
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.subi c3_i32 v3
  let v12 : BitVec 32 := Scalar.addi v4 v9
  let c256_i32_456 : BitVec 32 := 256#32
  let v738 : BitVec 32 := Scalar.muli v12 c256_i32_456
  let c0_i32_471 : BitVec 32 := 0#32
  ![v738.toNat, 0]
def k0_dev16 (d0 : Dev nD) : Nat :=
  let c0_i32_482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v11 : BitVec 32 := Scalar.addi v4 v8
  let c1_i32_481 : BitVec 32 := 1#32
  let v755 : BitVec 32 := Scalar.muli v11 c1_i32_481
  let v756 : BitVec 32 := Scalar.addi c0_i32_482 v755
  v756.toNat
def k0_dev17 (d0 : Dev nD) : Nat :=
  let c0_i32_490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v11 : BitVec 32 := Scalar.addi v4 v8
  let c1_i32_489 : BitVec 32 := 1#32
  let v763 : BitVec 32 := Scalar.muli v11 c1_i32_489
  let v764 : BitVec 32 := Scalar.addi c0_i32_490 v763
  v764.toNat
def k0_off15 (d0 : Dev nD) : Fin 2 → Nat :=
  let c0_497 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.subi c3_i32 v3
  let v12 : BitVec 32 := Scalar.addi v4 v9
  let c256_i32_496 : BitVec 32 := 256#32
  let v773 : BitVec 32 := Scalar.muli v12 c256_i32_496
  let v774 : Index := Scalar.indexCast v773
  ![0, v774.toNat]
def k0_off16 (d0 : Dev nD) (c0_i32_500 : BitVec 32) : Fin 4 → Nat :=
  let c0_501 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.subi c3_i32 v3
  let v12 : BitVec 32 := Scalar.addi v4 v9
  let c4_i32_499 : BitVec 32 := 4#32
  let v778 : BitVec 32 := Scalar.muli v12 c4_i32_499
  let v779 : BitVec 32 := Scalar.addi v778 c0_i32_500
  let v781 : Index := Scalar.indexCast v779
  let c0_502 : Index := 0#32
  let c0_503 : Index := 0#32
  ![0, v781.toNat, 0, 0]
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.subi c3_i32 v3
  let v12 : BitVec 32 := Scalar.addi v4 v9
  let c256_i32_561 : BitVec 32 := 256#32
  let v891 : BitVec 32 := Scalar.muli v12 c256_i32_561
  let v892 : Index := Scalar.indexCast v891
  let c0_562 : Index := 0#32
  ![v892.toNat, 0]
def k0_off18 (d0 : Dev nD) (c0_i32_577 : BitVec 32) : Fin 4 → Nat :=
  let c1_578 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.subi c3_i32 v3
  let v12 : BitVec 32 := Scalar.addi v4 v9
  let c4_i32_576 : BitVec 32 := 4#32
  let v908 : BitVec 32 := Scalar.muli v12 c4_i32_576
  let v909 : BitVec 32 := Scalar.addi v908 c0_i32_577
  let v911 : Index := Scalar.indexCast v909
  let c0_579 : Index := 0#32
  let c0_580 : Index := 0#32
  ![1, v911.toNat, 0, 0]
def k0_off19 (d0 : Dev nD) : Fin 2 → Nat :=
  let c0_i32_657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32_2 : BitVec 32 := 3#32
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v10 : BitVec 32 := Scalar.subi c3_i32_2 v8
  let v13 : BitVec 32 := Scalar.addi v4 v10
  let c256_i32_648 : BitVec 32 := 256#32
  let v1032 : BitVec 32 := Scalar.muli v13 c256_i32_648
  ![0, v1032.toNat]
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32_2 : BitVec 32 := 3#32
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v10 : BitVec 32 := Scalar.subi c3_i32_2 v8
  let v13 : BitVec 32 := Scalar.addi v4 v10
  let c256_i32_650 : BitVec 32 := 256#32
  let v1034 : BitVec 32 := Scalar.muli v13 c256_i32_650
  let c0_i32_665 : BitVec 32 := 0#32
  ![v1034.toNat, 0]
def k0_off21 (d0 : Dev nD) : Fin 2 → Nat :=
  let c0_671 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32_2 : BitVec 32 := 3#32
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v10 : BitVec 32 := Scalar.subi c3_i32_2 v8
  let v13 : BitVec 32 := Scalar.addi v4 v10
  let c256_i32_670 : BitVec 32 := 256#32
  let v1049 : BitVec 32 := Scalar.muli v13 c256_i32_670
  let v1050 : Index := Scalar.indexCast v1049
  ![0, v1050.toNat]
def k0_off22 (d0 : Dev nD) (c0_i32_674 : BitVec 32) : Fin 4 → Nat :=
  let c0_675 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32_2 : BitVec 32 := 3#32
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v10 : BitVec 32 := Scalar.subi c3_i32_2 v8
  let v13 : BitVec 32 := Scalar.addi v4 v10
  let c4_i32_673 : BitVec 32 := 4#32
  let v1054 : BitVec 32 := Scalar.muli v13 c4_i32_673
  let v1055 : BitVec 32 := Scalar.addi v1054 c0_i32_674
  let v1057 : Index := Scalar.indexCast v1055
  let c0_676 : Index := 0#32
  let c0_677 : Index := 0#32
  ![0, v1057.toNat, 0, 0]
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32_2 : BitVec 32 := 3#32
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v10 : BitVec 32 := Scalar.subi c3_i32_2 v8
  let v13 : BitVec 32 := Scalar.addi v4 v10
  let c256_i32_735 : BitVec 32 := 256#32
  let v1167 : BitVec 32 := Scalar.muli v13 c256_i32_735
  let v1168 : Index := Scalar.indexCast v1167
  let c0_736 : Index := 0#32
  ![v1168.toNat, 0]
def k0_off24 (d0 : Dev nD) (c0_i32_751 : BitVec 32) : Fin 4 → Nat :=
  let c1_752 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32_2 : BitVec 32 := 3#32
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v10 : BitVec 32 := Scalar.subi c3_i32_2 v8
  let v13 : BitVec 32 := Scalar.addi v4 v10
  let c4_i32_750 : BitVec 32 := 4#32
  let v1184 : BitVec 32 := Scalar.muli v13 c4_i32_750
  let v1185 : BitVec 32 := Scalar.addi v1184 c0_i32_751
  let v1187 : Index := Scalar.indexCast v1185
  let c0_753 : Index := 0#32
  let c0_754 : Index := 0#32
  ![1, v1187.toNat, 0, 0]
def k0_off25 (d0 : Dev nD) (c4_i32_821 : BitVec 32) : Fin 2 → Nat :=
  let c0_i32_831 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1307 : BitVec 32 := Scalar.addi v2 c4_i32_821
  let c16_i32_822 : BitVec 32 := 16#32
  let v1308 : BitVec 32 := Scalar.remsi v1307 c16_i32_822
  let c256_i32_824 : BitVec 32 := 256#32
  let v1310 : BitVec 32 := Scalar.muli v1308 c256_i32_824
  ![0, v1310.toNat]
def k0_off26 (d0 : Dev nD) (c4_i32_821 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1307 : BitVec 32 := Scalar.addi v2 c4_i32_821
  let c16_i32_822 : BitVec 32 := 16#32
  let v1308 : BitVec 32 := Scalar.remsi v1307 c16_i32_822
  let c256_i32_826 : BitVec 32 := 256#32
  let v1312 : BitVec 32 := Scalar.muli v1308 c256_i32_826
  let c0_i32_837 : BitVec 32 := 0#32
  ![v1312.toNat, 0]
def k0_dev18 (d0 : Dev nD) : Nat :=
  let c0_i32_848 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v11 : BitVec 32 := Scalar.addi v4 v8
  let c1_i32_847 : BitVec 32 := 1#32
  let v1329 : BitVec 32 := Scalar.muli v11 c1_i32_847
  let v1330 : BitVec 32 := Scalar.addi c0_i32_848 v1329
  v1330.toNat
def k0_dev19 (d0 : Dev nD) : Nat :=
  let c0_i32_856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v11 : BitVec 32 := Scalar.addi v4 v8
  let c1_i32_855 : BitVec 32 := 1#32
  let v1337 : BitVec 32 := Scalar.muli v11 c1_i32_855
  let v1338 : BitVec 32 := Scalar.addi c0_i32_856 v1337
  v1338.toNat
def k0_dev20 (d0 : Dev nD) : Nat :=
  let c0_i32_868 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.subi c3_i32 v3
  let v12 : BitVec 32 := Scalar.addi v4 v9
  let c1_i32_867 : BitVec 32 := 1#32
  let v1349 : BitVec 32 := Scalar.muli v12 c1_i32_867
  let v1350 : BitVec 32 := Scalar.addi c0_i32_868 v1349
  v1350.toNat
def k0_dev21 (d0 : Dev nD) : Nat :=
  let c0_i32_876 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.subi c3_i32 v3
  let v12 : BitVec 32 := Scalar.addi v4 v9
  let c1_i32_875 : BitVec 32 := 1#32
  let v1357 : BitVec 32 := Scalar.muli v12 c1_i32_875
  let v1358 : BitVec 32 := Scalar.addi c0_i32_876 v1357
  v1358.toNat
def k0_off27 (d0 : Dev nD) (c4_i32_821 : BitVec 32) : Fin 2 → Nat :=
  let c0_883 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1307 : BitVec 32 := Scalar.addi v2 c4_i32_821
  let c16_i32_822 : BitVec 32 := 16#32
  let v1308 : BitVec 32 := Scalar.remsi v1307 c16_i32_822
  let c256_i32_882 : BitVec 32 := 256#32
  let v1367 : BitVec 32 := Scalar.muli v1308 c256_i32_882
  let v1368 : Index := Scalar.indexCast v1367
  ![0, v1368.toNat]
def k0_off28 (d0 : Dev nD) (c4_i32_821 : BitVec 32) (c0_i32_886 : BitVec 32) : Fin 4 → Nat :=
  let c0_887 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1307 : BitVec 32 := Scalar.addi v2 c4_i32_821
  let c16_i32_822 : BitVec 32 := 16#32
  let v1308 : BitVec 32 := Scalar.remsi v1307 c16_i32_822
  let c4_i32_885 : BitVec 32 := 4#32
  let v1372 : BitVec 32 := Scalar.muli v1308 c4_i32_885
  let v1373 : BitVec 32 := Scalar.addi v1372 c0_i32_886
  let v1375 : Index := Scalar.indexCast v1373
  let c0_888 : Index := 0#32
  let c0_889 : Index := 0#32
  ![0, v1375.toNat, 0, 0]
def k0_off29 (d0 : Dev nD) (c4_i32_821 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1307 : BitVec 32 := Scalar.addi v2 c4_i32_821
  let c16_i32_822 : BitVec 32 := 16#32
  let v1308 : BitVec 32 := Scalar.remsi v1307 c16_i32_822
  let c256_i32_947 : BitVec 32 := 256#32
  let v1485 : BitVec 32 := Scalar.muli v1308 c256_i32_947
  let v1486 : Index := Scalar.indexCast v1485
  let c0_948 : Index := 0#32
  ![v1486.toNat, 0]
def k0_off30 (d0 : Dev nD) (c4_i32_821 : BitVec 32) (c0_i32_963 : BitVec 32) : Fin 4 → Nat :=
  let c1_964 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1307 : BitVec 32 := Scalar.addi v2 c4_i32_821
  let c16_i32_822 : BitVec 32 := 16#32
  let v1308 : BitVec 32 := Scalar.remsi v1307 c16_i32_822
  let c4_i32_962 : BitVec 32 := 4#32
  let v1502 : BitVec 32 := Scalar.muli v1308 c4_i32_962
  let v1503 : BitVec 32 := Scalar.addi v1502 c0_i32_963
  let v1505 : Index := Scalar.indexCast v1503
  let c0_965 : Index := 0#32
  let c0_966 : Index := 0#32
  ![1, v1505.toNat, 0, 0]
def k0_off31 (d0 : Dev nD) (c4_i32_1033 : BitVec 32) : Fin 2 → Nat :=
  let c0_i32_1045 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v11 : BitVec 32 := Scalar.addi v4 v8
  let v1625 : BitVec 32 := Scalar.addi v11 c4_i32_1033
  let c16_i32_1034 : BitVec 32 := 16#32
  let v1626 : BitVec 32 := Scalar.remsi v1625 c16_i32_1034
  let c256_i32_1036 : BitVec 32 := 256#32
  let v1628 : BitVec 32 := Scalar.muli v1626 c256_i32_1036
  ![0, v1628.toNat]
def k0_off32 (d0 : Dev nD) (c4_i32_1033 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v11 : BitVec 32 := Scalar.addi v4 v8
  let v1625 : BitVec 32 := Scalar.addi v11 c4_i32_1033
  let c16_i32_1034 : BitVec 32 := 16#32
  let v1626 : BitVec 32 := Scalar.remsi v1625 c16_i32_1034
  let c256_i32_1038 : BitVec 32 := 256#32
  let v1630 : BitVec 32 := Scalar.muli v1626 c256_i32_1038
  let c0_i32_1053 : BitVec 32 := 0#32
  ![v1630.toNat, 0]
def k0_dev22 (d0 : Dev nD) : Nat :=
  let c0_i32_1064 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.subi c3_i32 v3
  let v12 : BitVec 32 := Scalar.addi v4 v9
  let c1_i32_1063 : BitVec 32 := 1#32
  let v1647 : BitVec 32 := Scalar.muli v12 c1_i32_1063
  let v1648 : BitVec 32 := Scalar.addi c0_i32_1064 v1647
  v1648.toNat
def k0_dev23 (d0 : Dev nD) : Nat :=
  let c0_i32_1072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.subi c3_i32 v3
  let v12 : BitVec 32 := Scalar.addi v4 v9
  let c1_i32_1071 : BitVec 32 := 1#32
  let v1655 : BitVec 32 := Scalar.muli v12 c1_i32_1071
  let v1656 : BitVec 32 := Scalar.addi c0_i32_1072 v1655
  v1656.toNat
def k0_off33 (d0 : Dev nD) (c4_i32_1033 : BitVec 32) : Fin 2 → Nat :=
  let c0_1079 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v11 : BitVec 32 := Scalar.addi v4 v8
  let v1625 : BitVec 32 := Scalar.addi v11 c4_i32_1033
  let c16_i32_1034 : BitVec 32 := 16#32
  let v1626 : BitVec 32 := Scalar.remsi v1625 c16_i32_1034
  let c256_i32_1078 : BitVec 32 := 256#32
  let v1665 : BitVec 32 := Scalar.muli v1626 c256_i32_1078
  let v1666 : Index := Scalar.indexCast v1665
  ![0, v1666.toNat]
def k0_off34 (d0 : Dev nD) (c4_i32_1033 : BitVec 32) (c0_i32_1082 : BitVec 32) : Fin 4 → Nat :=
  let c0_1083 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v11 : BitVec 32 := Scalar.addi v4 v8
  let v1625 : BitVec 32 := Scalar.addi v11 c4_i32_1033
  let c16_i32_1034 : BitVec 32 := 16#32
  let v1626 : BitVec 32 := Scalar.remsi v1625 c16_i32_1034
  let c4_i32_1081 : BitVec 32 := 4#32
  let v1670 : BitVec 32 := Scalar.muli v1626 c4_i32_1081
  let v1671 : BitVec 32 := Scalar.addi v1670 c0_i32_1082
  let v1673 : Index := Scalar.indexCast v1671
  let c0_1084 : Index := 0#32
  let c0_1085 : Index := 0#32
  ![0, v1673.toNat, 0, 0]
def k0_off35 (d0 : Dev nD) (c4_i32_1033 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v11 : BitVec 32 := Scalar.addi v4 v8
  let v1625 : BitVec 32 := Scalar.addi v11 c4_i32_1033
  let c16_i32_1034 : BitVec 32 := 16#32
  let v1626 : BitVec 32 := Scalar.remsi v1625 c16_i32_1034
  let c256_i32_1143 : BitVec 32 := 256#32
  let v1783 : BitVec 32 := Scalar.muli v1626 c256_i32_1143
  let v1784 : Index := Scalar.indexCast v1783
  let c0_1144 : Index := 0#32
  ![v1784.toNat, 0]
def k0_off36 (d0 : Dev nD) (c4_i32_1033 : BitVec 32) (c0_i32_1159 : BitVec 32) : Fin 4 → Nat :=
  let c1_1160 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v11 : BitVec 32 := Scalar.addi v4 v8
  let v1625 : BitVec 32 := Scalar.addi v11 c4_i32_1033
  let c16_i32_1034 : BitVec 32 := 16#32
  let v1626 : BitVec 32 := Scalar.remsi v1625 c16_i32_1034
  let c4_i32_1158 : BitVec 32 := 4#32
  let v1800 : BitVec 32 := Scalar.muli v1626 c4_i32_1158
  let v1801 : BitVec 32 := Scalar.addi v1800 c0_i32_1159
  let v1803 : Index := Scalar.indexCast v1801
  let c0_1161 : Index := 0#32
  let c0_1162 : Index := 0#32
  ![1, v1803.toNat, 0, 0]
def k0_off37 (d0 : Dev nD) (c4_i32_1229 : BitVec 32) : Fin 2 → Nat :=
  let c0_i32_1241 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.subi c3_i32 v3
  let v12 : BitVec 32 := Scalar.addi v4 v9
  let v1923 : BitVec 32 := Scalar.addi v12 c4_i32_1229
  let c16_i32_1230 : BitVec 32 := 16#32
  let v1924 : BitVec 32 := Scalar.remsi v1923 c16_i32_1230
  let c256_i32_1232 : BitVec 32 := 256#32
  let v1926 : BitVec 32 := Scalar.muli v1924 c256_i32_1232
  ![0, v1926.toNat]
def k0_off38 (d0 : Dev nD) (c4_i32_1229 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.subi c3_i32 v3
  let v12 : BitVec 32 := Scalar.addi v4 v9
  let v1923 : BitVec 32 := Scalar.addi v12 c4_i32_1229
  let c16_i32_1230 : BitVec 32 := 16#32
  let v1924 : BitVec 32 := Scalar.remsi v1923 c16_i32_1230
  let c256_i32_1234 : BitVec 32 := 256#32
  let v1928 : BitVec 32 := Scalar.muli v1924 c256_i32_1234
  let c0_i32_1249 : BitVec 32 := 0#32
  ![v1928.toNat, 0]
def k0_off39 (d0 : Dev nD) (c4_i32_1229 : BitVec 32) : Fin 2 → Nat :=
  let c0_1255 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.subi c3_i32 v3
  let v12 : BitVec 32 := Scalar.addi v4 v9
  let v1923 : BitVec 32 := Scalar.addi v12 c4_i32_1229
  let c16_i32_1230 : BitVec 32 := 16#32
  let v1924 : BitVec 32 := Scalar.remsi v1923 c16_i32_1230
  let c256_i32_1254 : BitVec 32 := 256#32
  let v1943 : BitVec 32 := Scalar.muli v1924 c256_i32_1254
  let v1944 : Index := Scalar.indexCast v1943
  ![0, v1944.toNat]
def k0_off40 (d0 : Dev nD) (c4_i32_1229 : BitVec 32) (c0_i32_1258 : BitVec 32) : Fin 4 → Nat :=
  let c0_1259 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.subi c3_i32 v3
  let v12 : BitVec 32 := Scalar.addi v4 v9
  let v1923 : BitVec 32 := Scalar.addi v12 c4_i32_1229
  let c16_i32_1230 : BitVec 32 := 16#32
  let v1924 : BitVec 32 := Scalar.remsi v1923 c16_i32_1230
  let c4_i32_1257 : BitVec 32 := 4#32
  let v1948 : BitVec 32 := Scalar.muli v1924 c4_i32_1257
  let v1949 : BitVec 32 := Scalar.addi v1948 c0_i32_1258
  let v1951 : Index := Scalar.indexCast v1949
  let c0_1260 : Index := 0#32
  let c0_1261 : Index := 0#32
  ![0, v1951.toNat, 0, 0]
def k0_off41 (d0 : Dev nD) (c4_i32_1229 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.subi c3_i32 v3
  let v12 : BitVec 32 := Scalar.addi v4 v9
  let v1923 : BitVec 32 := Scalar.addi v12 c4_i32_1229
  let c16_i32_1230 : BitVec 32 := 16#32
  let v1924 : BitVec 32 := Scalar.remsi v1923 c16_i32_1230
  let c256_i32_1319 : BitVec 32 := 256#32
  let v2061 : BitVec 32 := Scalar.muli v1924 c256_i32_1319
  let v2062 : Index := Scalar.indexCast v2061
  let c0_1320 : Index := 0#32
  ![v2062.toNat, 0]
def k0_off42 (d0 : Dev nD) (c4_i32_1229 : BitVec 32) (c0_i32_1335 : BitVec 32) : Fin 4 → Nat :=
  let c1_1336 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.subi c3_i32 v3
  let v12 : BitVec 32 := Scalar.addi v4 v9
  let v1923 : BitVec 32 := Scalar.addi v12 c4_i32_1229
  let c16_i32_1230 : BitVec 32 := 16#32
  let v1924 : BitVec 32 := Scalar.remsi v1923 c16_i32_1230
  let c4_i32_1334 : BitVec 32 := 4#32
  let v2078 : BitVec 32 := Scalar.muli v1924 c4_i32_1334
  let v2079 : BitVec 32 := Scalar.addi v2078 c0_i32_1335
  let v2081 : Index := Scalar.indexCast v2079
  let c0_1337 : Index := 0#32
  let c0_1338 : Index := 0#32
  ![1, v2081.toNat, 0, 0]
def k0_off43 (d0 : Dev nD) (c4_i32_1405 : BitVec 32) : Fin 2 → Nat :=
  let c0_i32_1417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32_2 : BitVec 32 := 3#32
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v10 : BitVec 32 := Scalar.subi c3_i32_2 v8
  let v13 : BitVec 32 := Scalar.addi v4 v10
  let v2201 : BitVec 32 := Scalar.addi v13 c4_i32_1405
  let c16_i32_1406 : BitVec 32 := 16#32
  let v2202 : BitVec 32 := Scalar.remsi v2201 c16_i32_1406
  let c256_i32_1408 : BitVec 32 := 256#32
  let v2204 : BitVec 32 := Scalar.muli v2202 c256_i32_1408
  ![0, v2204.toNat]
def k0_off44 (d0 : Dev nD) (c4_i32_1405 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32_2 : BitVec 32 := 3#32
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v10 : BitVec 32 := Scalar.subi c3_i32_2 v8
  let v13 : BitVec 32 := Scalar.addi v4 v10
  let v2201 : BitVec 32 := Scalar.addi v13 c4_i32_1405
  let c16_i32_1406 : BitVec 32 := 16#32
  let v2202 : BitVec 32 := Scalar.remsi v2201 c16_i32_1406
  let c256_i32_1410 : BitVec 32 := 256#32
  let v2206 : BitVec 32 := Scalar.muli v2202 c256_i32_1410
  let c0_i32_1425 : BitVec 32 := 0#32
  ![v2206.toNat, 0]
def k0_off45 (d0 : Dev nD) (c4_i32_1405 : BitVec 32) : Fin 2 → Nat :=
  let c0_1431 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32_2 : BitVec 32 := 3#32
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v10 : BitVec 32 := Scalar.subi c3_i32_2 v8
  let v13 : BitVec 32 := Scalar.addi v4 v10
  let v2201 : BitVec 32 := Scalar.addi v13 c4_i32_1405
  let c16_i32_1406 : BitVec 32 := 16#32
  let v2202 : BitVec 32 := Scalar.remsi v2201 c16_i32_1406
  let c256_i32_1430 : BitVec 32 := 256#32
  let v2221 : BitVec 32 := Scalar.muli v2202 c256_i32_1430
  let v2222 : Index := Scalar.indexCast v2221
  ![0, v2222.toNat]
def k0_off46 (d0 : Dev nD) (c4_i32_1405 : BitVec 32) (c0_i32_1434 : BitVec 32) : Fin 4 → Nat :=
  let c0_1435 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32_2 : BitVec 32 := 3#32
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v10 : BitVec 32 := Scalar.subi c3_i32_2 v8
  let v13 : BitVec 32 := Scalar.addi v4 v10
  let v2201 : BitVec 32 := Scalar.addi v13 c4_i32_1405
  let c16_i32_1406 : BitVec 32 := 16#32
  let v2202 : BitVec 32 := Scalar.remsi v2201 c16_i32_1406
  let c4_i32_1433 : BitVec 32 := 4#32
  let v2226 : BitVec 32 := Scalar.muli v2202 c4_i32_1433
  let v2227 : BitVec 32 := Scalar.addi v2226 c0_i32_1434
  let v2229 : Index := Scalar.indexCast v2227
  let c0_1436 : Index := 0#32
  let c0_1437 : Index := 0#32
  ![0, v2229.toNat, 0, 0]
def k0_off47 (d0 : Dev nD) (c4_i32_1405 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32_2 : BitVec 32 := 3#32
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v10 : BitVec 32 := Scalar.subi c3_i32_2 v8
  let v13 : BitVec 32 := Scalar.addi v4 v10
  let v2201 : BitVec 32 := Scalar.addi v13 c4_i32_1405
  let c16_i32_1406 : BitVec 32 := 16#32
  let v2202 : BitVec 32 := Scalar.remsi v2201 c16_i32_1406
  let c256_i32_1495 : BitVec 32 := 256#32
  let v2339 : BitVec 32 := Scalar.muli v2202 c256_i32_1495
  let v2340 : Index := Scalar.indexCast v2339
  let c0_1496 : Index := 0#32
  ![v2340.toNat, 0]
def k0_off48 (d0 : Dev nD) (c4_i32_1405 : BitVec 32) (c0_i32_1511 : BitVec 32) : Fin 4 → Nat :=
  let c1_1512 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32_2 : BitVec 32 := 3#32
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v10 : BitVec 32 := Scalar.subi c3_i32_2 v8
  let v13 : BitVec 32 := Scalar.addi v4 v10
  let v2201 : BitVec 32 := Scalar.addi v13 c4_i32_1405
  let c16_i32_1406 : BitVec 32 := 16#32
  let v2202 : BitVec 32 := Scalar.remsi v2201 c16_i32_1406
  let c4_i32_1510 : BitVec 32 := 4#32
  let v2356 : BitVec 32 := Scalar.muli v2202 c4_i32_1510
  let v2357 : BitVec 32 := Scalar.addi v2356 c0_i32_1511
  let v2359 : Index := Scalar.indexCast v2357
  let c0_1513 : Index := 0#32
  let c0_1514 : Index := 0#32
  ![1, v2359.toNat, 0, 0]
def k0_dev24 (d0 : Dev nD) : Nat :=
  let c0_i32_1608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v11 : BitVec 32 := Scalar.addi v4 v8
  let c1_i32_1607 : BitVec 32 := 1#32
  let v2501 : BitVec 32 := Scalar.muli v11 c1_i32_1607
  let v2502 : BitVec 32 := Scalar.addi c0_i32_1608 v2501
  v2502.toNat
def k0_dev25 (d0 : Dev nD) : Nat :=
  let c0_i32_1616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v11 : BitVec 32 := Scalar.addi v4 v8
  let c1_i32_1615 : BitVec 32 := 1#32
  let v2509 : BitVec 32 := Scalar.muli v11 c1_i32_1615
  let v2510 : BitVec 32 := Scalar.addi c0_i32_1616 v2509
  v2510.toNat
def k0_dev26 (d0 : Dev nD) : Nat :=
  let c0_i32_1628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.subi c3_i32 v3
  let v12 : BitVec 32 := Scalar.addi v4 v9
  let c1_i32_1627 : BitVec 32 := 1#32
  let v2521 : BitVec 32 := Scalar.muli v12 c1_i32_1627
  let v2522 : BitVec 32 := Scalar.addi c0_i32_1628 v2521
  v2522.toNat
def k0_dev27 (d0 : Dev nD) : Nat :=
  let c0_i32_1636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.subi c3_i32 v3
  let v12 : BitVec 32 := Scalar.addi v4 v9
  let c1_i32_1635 : BitVec 32 := 1#32
  let v2529 : BitVec 32 := Scalar.muli v12 c1_i32_1635
  let v2530 : BitVec 32 := Scalar.addi c0_i32_1636 v2529
  v2530.toNat
def k0_dev28 (d0 : Dev nD) : Nat :=
  let c0_i32_2000 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v11 : BitVec 32 := Scalar.addi v4 v8
  let c1_i32_1999 : BitVec 32 := 1#32
  let v3097 : BitVec 32 := Scalar.muli v11 c1_i32_1999
  let v3098 : BitVec 32 := Scalar.addi c0_i32_2000 v3097
  v3098.toNat
def k0_dev29 (d0 : Dev nD) : Nat :=
  let c0_i32_2008 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v11 : BitVec 32 := Scalar.addi v4 v8
  let c1_i32_2007 : BitVec 32 := 1#32
  let v3105 : BitVec 32 := Scalar.muli v11 c1_i32_2007
  let v3106 : BitVec 32 := Scalar.addi c0_i32_2008 v3105
  v3106.toNat
def k0_dev30 (d0 : Dev nD) : Nat :=
  let c0_i32_2368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v11 : BitVec 32 := Scalar.addi v4 v8
  let c1_i32_2367 : BitVec 32 := 1#32
  let v3673 : BitVec 32 := Scalar.muli v11 c1_i32_2367
  let v3674 : BitVec 32 := Scalar.addi c0_i32_2368 v3673
  v3674.toNat
def k0_dev31 (d0 : Dev nD) : Nat :=
  let c0_i32_2376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c1_i32_0 : BitVec 32 := 1#32
  let v5 : BitVec 32 := Scalar.addi v3 c1_i32_0
  let c2_i32_1 : BitVec 32 := 2#32
  let c2_i32 : BitVec 32 := 2#32
  let v6 : BitVec 32 := Scalar.remsi v3 c2_i32
  let v7 : BitVec 32 := Scalar.muli c2_i32_1 v6
  let v8 : BitVec 32 := Scalar.subi v5 v7
  let v11 : BitVec 32 := Scalar.addi v4 v8
  let c1_i32_2375 : BitVec 32 := 1#32
  let v3681 : BitVec 32 := Scalar.muli v11 c1_i32_2375
  let v3682 : BitVec 32 := Scalar.addi c0_i32_2376 v3681
  v3682.toNat
def k0_dev32 (d0 : Dev nD) : Nat :=
  let c0_i32_2388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.subi c3_i32 v3
  let v12 : BitVec 32 := Scalar.addi v4 v9
  let c1_i32_2387 : BitVec 32 := 1#32
  let v3693 : BitVec 32 := Scalar.muli v12 c1_i32_2387
  let v3694 : BitVec 32 := Scalar.addi c0_i32_2388 v3693
  v3694.toNat
def k0_dev33 (d0 : Dev nD) : Nat :=
  let c0_i32_2396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.subi c3_i32 v3
  let v12 : BitVec 32 := Scalar.addi v4 v9
  let c1_i32_2395 : BitVec 32 := 1#32
  let v3701 : BitVec 32 := Scalar.muli v12 c1_i32_2395
  let v3702 : BitVec 32 := Scalar.addi c0_i32_2396 v3701
  v3702.toNat
def k0_dev34 (d0 : Dev nD) : Nat :=
  let c0_i32_2584 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.subi c3_i32 v3
  let v12 : BitVec 32 := Scalar.addi v4 v9
  let c1_i32_2583 : BitVec 32 := 1#32
  let v3991 : BitVec 32 := Scalar.muli v12 c1_i32_2583
  let v3992 : BitVec 32 := Scalar.addi c0_i32_2584 v3991
  v3992.toNat
def k0_dev35 (d0 : Dev nD) : Nat :=
  let c0_i32_2592 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v4 : BitVec 32 := Scalar.subi v2 v3
  let c3_i32 : BitVec 32 := 3#32
  let v9 : BitVec 32 := Scalar.subi c3_i32 v3
  let v12 : BitVec 32 := Scalar.addi v4 v9
  let c1_i32_2591 : BitVec 32 := 1#32
  let v3999 : BitVec 32 := Scalar.muli v12 c1_i32_2591
  let v4000 : BitVec 32 := Scalar.addi c0_i32_2592 v3999
  v4000.toNat
abbrev stage0_0 : Fin 1 → Memref sig .tc .vmem S2x256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x64x256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x64x256x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S32x256x512 : Shape := ⟨3, ![32, 256, 512]⟩
abbrev S512x4096 : Shape := ⟨2, ![512, 4096]⟩
abbrev S32x256x64x64 : Shape := ⟨4, ![32, 256, 64, 64]⟩
abbrev S4096x512 : Shape := ⟨2, ![4096, 512]⟩
abbrev S32x256x4096 : Shape := ⟨3, ![32, 256, 4096]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S32x64x256x256 : Shape := ⟨4, ![32, 64, 256, 256]⟩
abbrev S1x1x256x256 : Shape := ⟨4, ![1, 1, 256, 256]⟩
abbrev S32x64x256 : Shape := ⟨3, ![32, 64, 256]⟩
abbrev S32x64x256x1 : Shape := ⟨4, ![32, 64, 256, 1]⟩
abbrev S1x1x256x1 : Shape := ⟨4, ![1, 1, 256, 1]⟩
abbrev S32x64x64x256 : Shape := ⟨4, ![32, 64, 64, 256]⟩

abbrev nBuf : Space → Nat
  | .hbm => 137
  | .vmem => 0
  | .smem => 0
  | _ => 0

abbrev hbmTy0_0 (i : Nat) : BufTy := match i % 128 with
  | 0 => ⟨S32x256x512, .f32⟩
  | 1 => ⟨S512x4096, .f32⟩
  | 2 => ⟨S32x256x64x64, .f32⟩
  | 3 => ⟨S32x256x64x64, .f32⟩
  | 4 => ⟨S4096x512, .f32⟩
  | 5 => ⟨S32x256x4096, .f32⟩
  | 6 => ⟨S32x256x64x64, .f32⟩
  | 7 => ⟨S256, .i32⟩
  | 8 => ⟨S_, .i32⟩
  | 9 => ⟨S_, .i32⟩
  | 10 => ⟨S256, .i32⟩
  | 11 => ⟨S256, .i32⟩
  | 12 => ⟨S256, .i32⟩
  | 13 => ⟨S_, .i32⟩
  | 14 => ⟨S256, .i32⟩
  | 15 => ⟨S256, .i1⟩
  | 16 => ⟨S256, .i32⟩
  | 17 => ⟨S256, .i32⟩
  | 18 => ⟨S_, .i32⟩
  | 19 => ⟨S256, .i32⟩
  | 20 => ⟨S256, .i1⟩
  | 21 => ⟨S256, .i1⟩
  | 22 => ⟨S_, .i32⟩
  | 23 => ⟨S256, .i32⟩
  | 24 => ⟨S256, .i32⟩
  | 25 => ⟨S256, .i32⟩
  | 26 => ⟨S256x1, .i32⟩
  | 27 => ⟨S256, .i32⟩
  | 28 => ⟨S_, .i32⟩
  | 29 => ⟨S_, .i32⟩
  | 30 => ⟨S256, .i32⟩
  | 31 => ⟨S256, .i32⟩
  | 32 => ⟨S256, .i32⟩
  | 33 => ⟨S_, .i32⟩
  | 34 => ⟨S256, .i32⟩
  | 35 => ⟨S256, .i1⟩
  | 36 => ⟨S256, .i32⟩
  | 37 => ⟨S256, .i32⟩
  | 38 => ⟨S_, .i32⟩
  | 39 => ⟨S256, .i32⟩
  | 40 => ⟨S256, .i1⟩
  | 41 => ⟨S256, .i1⟩
  | 42 => ⟨S_, .i32⟩
  | 43 => ⟨S256, .i32⟩
  | 44 => ⟨S256, .i32⟩
  | 45 => ⟨S256, .i32⟩
  | 46 => ⟨S1x256, .i32⟩
  | 47 => ⟨S256x256, .i32⟩
  | 48 => ⟨S256x256, .i32⟩
  | 49 => ⟨S256x256, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x256, .i32⟩
  | 57 => ⟨S1x256, .i32⟩
  | 58 => ⟨S_, .i32⟩
  | 59 => ⟨S1x256, .i32⟩
  | 60 => ⟨S1x256, .i1⟩
  | 61 => ⟨S_, .i32⟩
  | 62 => ⟨S1x256, .i32⟩
  | 63 => ⟨S1x256, .i1⟩
  | 64 => ⟨S_, .i32⟩
  | 65 => ⟨S_, .i1⟩
  | 66 => ⟨S1x256, .i1⟩
  | 67 => ⟨S1x256, .i1⟩
  | 68 => ⟨S1x256, .i1⟩
  | 69 => ⟨S1x256, .i32⟩
  | 70 => ⟨S1x256, .i32⟩
  | 71 => ⟨S1x256, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S256x1, .i32⟩
  | 79 => ⟨S256x1, .i32⟩
  | 80 => ⟨S_, .i32⟩
  | 81 => ⟨S256x1, .i32⟩
  | 82 => ⟨S256x1, .i1⟩
  | 83 => ⟨S_, .i32⟩
  | 84 => ⟨S256x1, .i32⟩
  | 85 => ⟨S256x1, .i1⟩
  | 86 => ⟨S_, .i32⟩
  | 87 => ⟨S_, .i1⟩
  | 88 => ⟨S256x1, .i1⟩
  | 89 => ⟨S256x1, .i1⟩
  | 90 => ⟨S256x1, .i1⟩
  | 91 => ⟨S256x1, .i32⟩
  | 92 => ⟨S256x1, .i32⟩
  | 93 => ⟨S256x1, .i32⟩
  | 94 => ⟨S256x256, .i32⟩
  | 95 => ⟨S256x256, .i32⟩
  | 96 => ⟨S256x256, .i1⟩
  | 97 => ⟨S256x256, .i1⟩
  | 98 => ⟨S32x64x256x256, .f32⟩
  | 99 => ⟨S_, .f32⟩
  | 100 => ⟨S32x64x256x256, .f32⟩
  | 101 => ⟨S32x64x256x256, .f32⟩
  | 102 => ⟨S1x1x256x256, .i1⟩
  | 103 => ⟨S_, .f32⟩
  | 104 => ⟨S_, .f32⟩
  | 105 => ⟨S32x64x256x256, .i1⟩
  | 106 => ⟨S32x64x256x256, .f32⟩
  | 107 => ⟨S32x64x256x256, .f32⟩
  | 108 => ⟨S_, .f32⟩
  | 109 => ⟨S32x64x256, .f32⟩
  | 110 => ⟨S32x64x256x1, .f32⟩
  | 111 => ⟨S32x64x256x256, .f32⟩
  | 112 => ⟨S32x64x256x256, .f32⟩
  | 113 => ⟨S32x64x256x256, .f32⟩
  | 114 => ⟨S_, .i1⟩
  | 115 => ⟨S256, .i1⟩
  | 116 => ⟨S1x1x256x1, .i1⟩
  | 117 => ⟨S_, .f32⟩
  | 118 => ⟨S32x64x256, .f32⟩
  | 119 => ⟨S32x64x256x1, .f32⟩
  | 120 => ⟨S_, .f32⟩
  | 121 => ⟨S_, .f32⟩
  | 122 => ⟨S32x64x256x1, .i1⟩
  | 123 => ⟨S32x64x256x1, .f32⟩
  | 124 => ⟨S32x64x256x1, .f32⟩
  | 125 => ⟨S32x64x256x256, .f32⟩
  | 126 => ⟨S32x64x256x256, .f32⟩
  | 127 => ⟨S1x1x256x1, .i1⟩
  | _ => ⟨S32x256x512, .f32⟩

abbrev hbmTy0_1 (i : Nat) : BufTy := match i % 128 with
  | 0 => ⟨S_, .f32⟩
  | 1 => ⟨S_, .f32⟩
  | 2 => ⟨S32x64x256x256, .i1⟩
  | 3 => ⟨S32x64x256x256, .f32⟩
  | 4 => ⟨S32x64x256x256, .f32⟩
  | 5 => ⟨S32x64x64x256, .f32⟩
  | 6 => ⟨S32x256x64x64, .f32⟩
  | 7 => ⟨S32x256x4096, .f32⟩
  | 8 => ⟨S32x256x512, .f32⟩
  | _ => ⟨S32x256x512, .f32⟩

abbrev hbmTy (i : Nat) : BufTy := match i / 128 with
  | 0 => hbmTy0_0 i
  | 1 => hbmTy0_1 i
  | _ => ⟨S32x256x512, .f32⟩

abbrev bufTy : (tb : Table) → Fin (tcTables nBuf tb) → BufTy
  | .hbm, ⟨i, _⟩ => hbmTy i
  | _, _ => ⟨S32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]

def κ : String → Option EReal := fun
  | "mask" => some ⊥
  | _ => none
-- ==== Proof.Prog.lean ====
/- The kernel body as a program in continuation-passing style: the pieces the fused kernel repeats (a chunk's
   projection, four heads of attention and output projection; a two-leg send; a two-leg wait), each written once. -/
module

public import proofs.«01_k».proof.Proof.Gen.KernelIdeal.Points

@[expose] public section

noncomputable section

namespace Cert.KernelIdeal.Fused

open Idealize.ShloMosaic Idealize.ShloMosaic.TcCoe
open Idealize.SL Idealize.SL.Sem
open Cert.KernelIdeal Cert.KernelIdeal.Gen

variable {F : FTy → Type} [FloatOps F] [Named F]

/-- Programs of the kernel body. -/
abbrev P (F : FTy → Type) [FloatOps F] [Named F] : Type _ := Prog (TpuEff nD τ sig (Elt F) Λ₀ .tc) PUnit

/-! ## The buffers -/

/-- The staged activations. -/
abbrev mX : Memref sig .tc .vmem S2x256x512 .bf16 := Memref.whole cc0_stg0_0
/-- The staged own columns of the query weights. -/
abbrev mWq : Memref sig .tc .vmem S512x256 .bf16 := Memref.whole cc0_stg1_0
/-- The staged own rows of the output weights. -/
abbrev mWo : Memref sig .tc .vmem S256x512 .bf16 := Memref.whole cc0_stg2_0
/-- The staged keys. -/
abbrev mK : Memref sig .tc .vmem S2x64x256x64 .bf16 := Memref.whole cc0_stg3_0
/-- The staged values. -/
abbrev mV : Memref sig .tc .vmem S2x64x256x64 .bf16 := Memref.whole cc0_stg4_0
/-- The output's staging buffer. -/
abbrev mOut : Memref sig .tc .vmem S2x256x512 .f32 := Memref.whole cc0_stg5_0
/-- The gathered query weights. -/
abbrev mQ : Memref sig .tc .vmem S512x4096 .bf16 := Memref.whole cc0_scratch0
/-- The gathered output weights. -/
abbrev mO : Memref sig .tc .vmem S4096x512 .bf16 := Memref.whole cc0_scratch1
/-- The context of the four heads of one chunk. -/
abbrev mC : Memref sig .tc .vmem S256x256 .bf16 := Memref.whole cc0_scratch2

/-! ## Where a chunk lies -/

/-- A window of 256 columns of the gathered query weights. -/
structure Off6 where
  o : Fin 2 → Nat
  inb : ∀ a, o a + S512x256.size a ≤ S512x4096.size a

/-- Its rectangle. -/
abbrev Off6.rect (p : Off6) : Rect S512x4096 := Rect.unit (s := S512x4096) p.o S512x256.size p.inb

/-- A window of 256 rows of the gathered output weights. -/
structure Off7 where
  o : Fin 2 → Nat
  inb : ∀ a, o a + S256x512.size a ≤ S4096x512.size a

/-- Its rectangle. -/
abbrev Off7.rect (p : Off7) : Rect S4096x512 := Rect.unit (s := S4096x512) p.o S256x512.size p.inb

/-- A transfer's window of the query weights. -/
structure Win6 extends Off6 where
  words : toOff6.rect.WholeWords (EltTy.packing .bf16)

/-- A transfer's window of the output weights. -/
structure Win7 extends Off7 where
  words : toOff7.rect.WholeWords (EltTy.packing .bf16)

/-- The four heads' windows of the keys or values, of one batch element. -/
structure OffKV where
  o : Fin 4 → Fin 4 → Nat
  inb : ∀ h a, o h a + S1x1x256x64.size a ≤ S2x64x256x64.size a

/-- The rectangle of head `h`. -/
abbrev OffKV.rect (p : OffKV) (h : Fin 4) : Rect S2x64x256x64 :=
  Rect.unit (s := S2x64x256x64) (p.o h) S1x1x256x64.size (p.inb h)

/-! ## Transfers -/

/-- Of slot `s` of the fifteen transfers a device makes, the first of its four semaphores and their stride. -/
def semBase : Fin 15 → Nat × Nat :=
  ![(7, 4), (8, 4), (9, 4), (22, 8), (54, 8), (26, 8), (23, 8), (55, 8), (59, 8), (24, 8), (56, 8), (28, 8), (25, 8), (57, 8), (61, 8)]

/-- The semaphores of a slot: leg 0 sent, leg 0 received, leg 1 sent, leg 1 received. -/
def slotSem (s : Fin 15) (k : Fin 4) : DmaSem sig :=
  ⟨(semBase s).1 + (semBase s).2 * k.val, by revert s k; decide⟩

/-- A transfer's window as a memref. -/
abbrev Win6.mem (w : Win6) : Memref sig .tc .vmem S512x256 .bf16 := mQ.slice w.rect (fun _ => rfl)
/-- A transfer's window as a memref. -/
abbrev Win7.mem (w : Win7) : Memref sig .tc .vmem S256x512 .bf16 := mO.slice w.rect (fun _ => rfl)

theorem Win6.exact (w : Win6) : w.mem.view.WordExact :=
  (Memref.isWhole_whole cc0_scratch0).wordExact_slice rfl _ w.words
theorem Win7.exact (w : Win7) : w.mem.view.WordExact :=
  (Memref.isWhole_whole cc0_scratch1).wordExact_slice rfl _ w.words

/-- Send slot `s`: the query-weight window to device `d`, the output-weight window to device `d'`. -/
def sendK (s : Fin 15) (w : Win6) (w' : Win7) (d d' : Dev nD) (k : P F) : P F :=
  .op (.enqueueDma w.mem (.remote (Dev.tc d) w.mem (.dma (slotSem s 0))) (.dma (slotSem s 1)) w.exact w.exact
    ⟨⟨rfl, Or.inl rfl⟩, trivial⟩) fun _ =>
  .op (.enqueueDma w'.mem (.remote (Dev.tc d') w'.mem (.dma (slotSem s 2))) (.dma (slotSem s 3)) w'.exact w'.exact
    ⟨⟨rfl, Or.inl rfl⟩, trivial⟩) fun _ => k

/-- Wait for both legs of slot `s`, received (`r = 1`) or sent (`r = 0`). -/
def waitK (s : Fin 15) (r : Fin 2) (w : Win6) (w' : Win7) (k : P F) : P F :=
  .op (.waitDma2 (slotSem s ⟨r.val, by omega⟩) w.mem w.mem w.exact w.exact) fun _ =>
  .op (.waitDma2 (slotSem s ⟨2 + r.val, by omega⟩) w'.mem w'.mem w'.exact w'.exact) fun _ => k

/-! ## The arithmetic -/

/-- Floor division by 64, as the kernel computes it. -/
def floorDiv64 (v : IVec S256x256 32) : IVec S256x256 32 :=
  select
    (andi
      (cmpi .ne
        (subi (extui 32 (cmpi .sgt v (broadcast S256x256 0#32)) natLt_1_32) (extui 32 (cmpi .slt v (broadcast S256x256 0#32)) natLt_1_32))
        (broadcast S256x256 (Scalar.subi (Scalar.extui (Scalar.cmpi .sgt 64#32 0#32)) (Scalar.extui (Scalar.cmpi .slt 64#32 0#32)))))
      (cmpi .ne (remsi v (broadcast S256x256 64#32)) (broadcast S256x256 0#32)))
    (subi (divsi v (broadcast S256x256 64#32)) (broadcast S256x256 1#32))
    (divsi v (broadcast S256x256 64#32))

/-- The additive mask: zero where query and key lie in the same block of 64, the mask constant elsewhere. -/
def negMask : FVec F S256x256 .f32 :=
  select (cmpi .eq (floorDiv64 (iota .tc S256x256 32 [0] iota_S256x256_d0_w32)) (floorDiv64 (iota .tc S256x256 32 [1] iota_S256x256_d1_w32)))
    (broadcast S256x256 (Scalar.ofBits .f32 0x00000000#32)) (broadcast S256x256 (Named.named κ "mask" 0xCE6E6B28#32))

/-- The queries of a chunk. -/
def queries (x : Vec F S1x256x512 .bf16) (wq : Vec F S512x256 .bf16) : FVec F S256x256 .bf16 :=
  truncf .bf16 (matmul dot_S256x512_S512x256_S256x256_1_0_0_1_n_n none (shapeCast S256x512 x shapeCasts_S1x256x512_S256x512) wq
    (constant S256x256 .f32 0x00000000#32)) bitsLt_bf16_f32

/-- The masked, scaled scores of one head. -/
def scores (q : FVec F S256x64 .bf16) (k : Vec F S1x1x256x64 .bf16) : FVec F S256x256 .f32 :=
  addf (mulf (matmul dot_S256x64_S256x64_S256x256_1_1_0_0_n_n none q (shapeCast S256x64 k shapeCasts_S1x1x256x64_S256x64)
    (constant S256x256 .f32 0x00000000#32)) (broadcast S256x256 (Scalar.ofBits .f32 0x3E000000#32))) negMask

/-- The exponentials of a row of scores less its maximum. -/
def expScores (s : FVec F S256x256 .f32) : FVec F S256x256 .f32 :=
  exp (subf s (broadcastTo S256x256 (shapeCast S256x1 (multiReduction .maximumf [1] S256 s 0xFF800000#32 reduces_S256x256_S256 (.inl rfl) rfl)
    shapeCasts_S256_S256x1) broadcasts_S256x1_S256x256))

/-- A row of exponentials over its sum. -/
def normalize (e : FVec F S256x256 .f32) : FVec F S256x256 .bf16 :=
  truncf .bf16 (divf e (broadcastTo S256x256 (shapeCast S256x1 (multiReduction .add [1] S256 e 0x00000000#32 reduces_S256x256_S256 (.inl rfl) rfl)
    shapeCasts_S256_S256x1) broadcasts_S256x1_S256x256)) bitsLt_bf16_f32

/-- One head's context, from its queries, keys and values. -/
def headCtx (q : FVec F S256x64 .bf16) (k v : Vec F S1x1x256x64 .bf16) : FVec F S256x64 .bf16 :=
  truncf .bf16 (matmul dot_S256x256_S256x64_S256x64_1_0_0_1_n_n none (normalize (expScores (scores q k)))
    (shapeCast S256x64 v shapeCasts_S1x1x256x64_S256x64) (constant S256x64 .f32 0x00000000#32)) bitsLt_bf16_f32

theorem slicesH (h : Fin 4) : S256x256.Slices ![0, 64 * h.val] S256x64 := by revert h; decide
theorem inbH (h : Fin 4) : ∀ a, (![0, 64 * h.val] : Fin 2 → Nat) a + S256x64.size a ≤ S256x256.size a := by revert h; decide
/-- The columns of head `h` of the context buffer. -/
abbrev rectH (h : Fin 4) : Rect S256x256 := Rect.unit (s := S256x256) ![0, 64 * h.val] S256x64.size (inbH h)
theorem packedH (h : Fin 4) : (rectH h).PackedRows (EltTy.packing .bf16) := by revert h; decide +kernel

/-- Head `h`'s columns of a chunk's queries. -/
def headQ (q : FVec F S256x256 .bf16) (h : Fin 4) : FVec F S256x64 .bf16 :=
  extractStridedSlice S256x64 ![0, 64 * h.val] q (slicesH h)

/-- The output projection of a chunk's context. -/
def project (ctx : Vec F S256x256 .bf16) (wo : Vec F S256x512 .bf16) : FVec F S256x512 .f32 :=
  matmul dot_S256x256_S256x512_S256x512_1_0_0_1_n_n none ctx wo (constant S256x512 .f32 0x00000000#32)

/-- A projection as the first value of a batch element's accumulator. -/
def accFirst (p : FVec F S256x512 .f32) : FVec F S1x256x512 .f32 := shapeCast S1x256x512 p shapeCasts_S256x512_S1x256x512

/-- A projection added to a batch element's accumulator. -/
def accNext (a : Vec F S1x256x512 .f32) (p : FVec F S256x512 .f32) : FVec F S1x256x512 .f32 :=
  shapeCast S1x256x512 (addf (shapeCast S256x512 a shapeCasts_S1x256x512_S256x512) p) shapeCasts_S256x512_S1x256x512

/-! ## Processing a chunk -/

theorem inbB (b : Fin 2) : ∀ a, (![b.val, 0, 0] : Fin 3 → Nat) a + S1x256x512.size a ≤ S2x256x512.size a := by revert b; decide
/-- Batch element `b` of the activations or of the output. -/
abbrev rectB (b : Fin 2) : Rect S2x256x512 := Rect.unit (s := S2x256x512) ![b.val, 0, 0] S1x256x512.size (inbB b)

/-- One head: its keys and values read, its context stored. -/
def headK (h : Fin 4) (kv : OffKV) (q : FVec F S256x256 .bf16) (k : P F) : P F :=
  .op (.load mK (kv.rect h).toLoadRect (View.loadsAt_vmem h_S1x1x256x64)) fun (kk : Vec F S1x1x256x64 .bf16) =>
  .op (.load mV (kv.rect h).toLoadRect (View.loadsAt_vmem h_S1x1x256x64)) fun (vv : Vec F S1x1x256x64 .bf16) =>
  .op (.load mC (rectH h).toLoadRect (View.loadsAt_vmem h_S256x64)) fun (_ : Vec F S256x64 .bf16) =>
  .op (.store mC (rectH h) (shapeCast S256x64 (headCtx (headQ q h) kk vv) shapeCasts_S256x64_S256x64) Finset.univ
    (View.stores_vmem h_S256x64 ((Memref.isWhole_whole cc0_scratch2).storeExact_slice rfl _ (packedH h)) (fun _ => rfl)) (.inl rfl)) fun _ => k

/-- Batch element `b` of a chunk up to its context and output weights. -/
def ctxK (b : Fin 2) (o6 : Off6) (o7 : Off7) (kv : OffKV) (k : Vec F S256x256 .bf16 → Vec F S256x512 .bf16 → P F) : P F :=
  .op (.load mX (rectB b).toLoadRect (View.loadsAt_vmem h_S1x256x512)) fun (x : Vec F S1x256x512 .bf16) =>
  .op (.load mQ o6.rect.toLoadRect (View.loadsAt_vmem h_S512x256)) fun (wq : Vec F S512x256 .bf16) =>
  headK 0 kv (queries x wq) <| headK 1 kv (queries x wq) <| headK 2 kv (queries x wq) <| headK 3 kv (queries x wq) <|
  .op (.load mC (Rect.unit (s := S256x256) ![0, 0] S256x256.size inb_S256x256_S256x256_0_0).toLoadRect (View.loadsAt_vmem h_S256x256))
    fun (ctx : Vec F S256x256 .bf16) =>
  .op (.load mO o7.rect.toLoadRect (View.loadsAt_vmem h_S256x512)) fun (wo : Vec F S256x512 .bf16) => k ctx wo

/-- The store of a batch element's accumulator. -/
def putK (b : Fin 2) (v : FVec F S1x256x512 .f32) (k : P F) : P F :=
  .op (.load mOut (rectB b).toLoadRect (View.loadsAt_vmem h_S1x256x512)) fun (_ : Vec F S1x256x512 .f32) =>
  .op (.store mOut (rectB b) v Finset.univ (View.stores_vmem_bits_univ h_S1x256x512 rfl) (.inl rfl)) fun _ => k

/-- Batch element `b` of the first chunk. -/
def firstK (b : Fin 2) (o6 : Off6) (o7 : Off7) (kv : OffKV) (k : P F) : P F :=
  ctxK b o6 o7 kv fun ctx wo => putK b (accFirst (project ctx wo)) k

/-- Batch element `b` of a later chunk. -/
def nextK (b : Fin 2) (o6 : Off6) (o7 : Off7) (kv : OffKV) (k : P F) : P F :=
  ctxK b o6 o7 kv fun ctx wo =>
  .op (.load mOut (rectB b).toLoadRect (View.loadsAt_vmem h_S1x256x512)) fun (a : Vec F S1x256x512 .f32) =>
  putK b (accNext a (project ctx wo)) k

/-- A later chunk, both batch elements. -/
def chunkK (o6 : Off6) (o7 : Off7) (kv kv' : OffKV) (k : P F) : P F :=
  nextK 0 o6 o7 kv <| nextK 1 o6 o7 kv' k

/-! ## The start: the barrier and the device's own chunk -/

/-- The barrier's semaphore. -/
abbrev barS : Sem sig := sig.barrier 0 rfl

/-- The barrier: one signal to each of five peers, then five received. -/
def barrierK (d : Fin 5 → Dev nD) (k : P F) : P F :=
  .op (.semSignal (Dev.tc (d 0)) barS 1) fun _ => .op (.semSignal (Dev.tc (d 1)) barS 1) fun _ =>
  .op (.semSignal (Dev.tc (d 2)) barS 1) fun _ => .op (.semSignal (Dev.tc (d 3)) barS 1) fun _ =>
  .op (.semSignal (Dev.tc (d 4)) barS 1) fun _ => .op (.semWait barS 5) fun _ => k

/-- The device's own weights copied into their places among the gathered ones. -/
def ownK (o6 : Off6) (h6 : o6.rect.PackedRows (EltTy.packing .bf16)) (o7 : Off7) (h7 : o7.rect.PackedRows (EltTy.packing .bf16)) (k : P F) : P F :=
  .op (.load mWq (Rect.unit (s := S512x256) ![0, 0] S512x256.size inb_S512x256_S512x256_0_0).toLoadRect (View.loadsAt_vmem h_S512x256))
    fun (wq : Vec F S512x256 .bf16) =>
  .op (.load mQ o6.rect.toLoadRect (View.loadsAt_vmem h_S512x256)) fun (_ : Vec F S512x256 .bf16) =>
  .op (.store mQ o6.rect (shapeCast S512x256 (shapeCast S512x256 wq shapeCasts_S512x256_S512x256) shapeCasts_S512x256_S512x256) Finset.univ
    (View.stores_vmem h_S512x256 ((Memref.isWhole_whole cc0_scratch0).storeExact_slice rfl _ h6) (fun _ => rfl)) (.inl rfl)) fun _ =>
  .op (.load mWo (Rect.unit (s := S256x512) ![0, 0] S256x512.size inb_S256x512_S256x512_0_0).toLoadRect (View.loadsAt_vmem h_S256x512))
    fun (wo : Vec F S256x512 .bf16) =>
  .op (.load mO o7.rect.toLoadRect (View.loadsAt_vmem h_S256x512)) fun (_ : Vec F S256x512 .bf16) =>
  .op (.store mO o7.rect (shapeCast S256x512 (shapeCast S256x512 wo shapeCasts_S256x512_S256x512) shapeCasts_S256x512_S256x512) Finset.univ
    (View.stores_vmem h_S256x512 ((Memref.isWhole_whole cc0_scratch1).storeExact_slice rfl _ h7) (fun _ => rfl)) (.inl rfl)) fun _ => k

end Cert.KernelIdeal.Fused

end
-- ==== Proof.Raw.lean ====
/- The emitted kernel body is the program of the pieces of `Prog`, at the windows and devices it computes. -/
module

public import proofs.«01_k».proof.Proof.Prog
public import Idealize.ShloMosaic.Lib.Tactic

@[expose] public section

noncomputable section

namespace Cert.KernelIdeal.Fused

open Idealize.ShloMosaic Idealize.ShloMosaic.TcCoe
open Idealize.SL Idealize.SL.Sem
open Cert.KernelIdeal Cert.KernelIdeal.Gen

variable {F : FTy → Type} [FloatOps F] [Named F]

/-- Receive slot `s`, pass on what `sends` sends, and process the chunk received. -/
def recvK (s : Fin 15) (w : Win6) (w' : Win7) (sends : P F → P F) (o : Off6) (o' : Off7) (kv kv' : OffKV) (k : P F) : P F :=
  waitK s 1 w w' <| sends <| chunkK o o' kv kv' k

/-! ## The windows as the body computes them -/

def own6 (d : Dev nD) : Off6 := ⟨k0_off1 d, k0_off1_inb d⟩
def own7 (d : Dev nD) : Off7 := ⟨k0_off2 d, k0_off2_inb d⟩
def w3 (d : Dev nD) : Win6 := ⟨⟨k0_off3 d, k0_off3_inb d⟩, k0_off3_wordsbf16 d⟩
def w4 (d : Dev nD) : Win7 := ⟨⟨k0_off4 d, k0_off4_inb d⟩, k0_off4_wordsbf16 d⟩
def kv5 (d : Dev nD) : OffKV := ⟨fun h => k0_off5 d (BitVec.ofNat 32 h.val), k0_off5_inb d⟩
def kv6 (d : Dev nD) : OffKV := ⟨fun h => k0_off6 d (BitVec.ofNat 32 h.val), k0_off6_inb d⟩
def w7 (d : Dev nD) : Win6 := ⟨⟨k0_off7 d, k0_off7_inb d⟩, k0_off7_wordsbf16 d⟩
def w8 (d : Dev nD) : Win7 := ⟨⟨k0_off8 d, k0_off8_inb d⟩, k0_off8_wordsbf16 d⟩
def l9 (d : Dev nD) : Off6 := ⟨k0_off9 d, k0_off9_inb d⟩
def kv10 (d : Dev nD) : OffKV := ⟨fun h => k0_off10 d (BitVec.ofNat 32 h.val), k0_off10_inb d⟩
def l11 (d : Dev nD) : Off7 := ⟨k0_off11 d, k0_off11_inb d⟩
def kv12 (d : Dev nD) : OffKV := ⟨fun h => k0_off12 d (BitVec.ofNat 32 h.val), k0_off12_inb d⟩
def w13 (d : Dev nD) : Win6 := ⟨⟨k0_off13 d, k0_off13_inb d⟩, k0_off13_wordsbf16 d⟩
def w14 (d : Dev nD) : Win7 := ⟨⟨k0_off14 d, k0_off14_inb d⟩, k0_off14_wordsbf16 d⟩
def l15 (d : Dev nD) : Off6 := ⟨k0_off15 d, k0_off15_inb d⟩
def kv16 (d : Dev nD) : OffKV := ⟨fun h => k0_off16 d (BitVec.ofNat 32 h.val), k0_off16_inb d⟩
def l17 (d : Dev nD) : Off7 := ⟨k0_off17 d, k0_off17_inb d⟩
def kv18 (d : Dev nD) : OffKV := ⟨fun h => k0_off18 d (BitVec.ofNat 32 h.val), k0_off18_inb d⟩
def w19 (d : Dev nD) : Win6 := ⟨⟨k0_off19 d, k0_off19_inb d⟩, k0_off19_wordsbf16 d⟩
def w20 (d : Dev nD) : Win7 := ⟨⟨k0_off20 d, k0_off20_inb d⟩, k0_off20_wordsbf16 d⟩
def l21 (d : Dev nD) : Off6 := ⟨k0_off21 d, k0_off21_inb d⟩
def kv22 (d : Dev nD) : OffKV := ⟨fun h => k0_off22 d (BitVec.ofNat 32 h.val), k0_off22_inb d⟩
def l23 (d : Dev nD) : Off7 := ⟨k0_off23 d, k0_off23_inb d⟩
def kv24 (d : Dev nD) : OffKV := ⟨fun h => k0_off24 d (BitVec.ofNat 32 h.val), k0_off24_inb d⟩

/-- The word by which round `r` moves along the depth of the mesh. -/
abbrev word (r : Fin 3) : BitVec 32 := BitVec.ofNat 32 (4 + 4 * r.val)

def w25 (d : Dev nD) (r : Fin 3) : Win6 := ⟨⟨k0_off25 d (word r), k0_off25_inb d r⟩, k0_off25_wordsbf16 d r⟩
def w26 (d : Dev nD) (r : Fin 3) : Win7 := ⟨⟨k0_off26 d (word r), k0_off26_inb d r⟩, k0_off26_wordsbf16 d r⟩
def l27 (d : Dev nD) (r : Fin 3) : Off6 := ⟨k0_off27 d (word r), k0_off27_inb d r⟩
def kv28 (d : Dev nD) (r : Fin 3) : OffKV := ⟨fun h => k0_off28 d (word r) (BitVec.ofNat 32 h.val), k0_off28_inb d r⟩
def l29 (d : Dev nD) (r : Fin 3) : Off7 := ⟨k0_off29 d (word r), k0_off29_inb d r⟩
def kv30 (d : Dev nD) (r : Fin 3) : OffKV := ⟨fun h => k0_off30 d (word r) (BitVec.ofNat 32 h.val), k0_off30_inb d r⟩
def w31 (d : Dev nD) (r : Fin 3) : Win6 := ⟨⟨k0_off31 d (word r), k0_off31_inb d r⟩, k0_off31_wordsbf16 d r⟩
def w32 (d : Dev nD) (r : Fin 3) : Win7 := ⟨⟨k0_off32 d (word r), k0_off32_inb d r⟩, k0_off32_wordsbf16 d r⟩
def l33 (d : Dev nD) (r : Fin 3) : Off6 := ⟨k0_off33 d (word r), k0_off33_inb d r⟩
def kv34 (d : Dev nD) (r : Fin 3) : OffKV := ⟨fun h => k0_off34 d (word r) (BitVec.ofNat 32 h.val), k0_off34_inb d r⟩
def l35 (d : Dev nD) (r : Fin 3) : Off7 := ⟨k0_off35 d (word r), k0_off35_inb d r⟩
def kv36 (d : Dev nD) (r : Fin 3) : OffKV := ⟨fun h => k0_off36 d (word r) (BitVec.ofNat 32 h.val), k0_off36_inb d r⟩
def w37 (d : Dev nD) (r : Fin 3) : Win6 := ⟨⟨k0_off37 d (word r), k0_off37_inb d r⟩, k0_off37_wordsbf16 d r⟩
def w38 (d : Dev nD) (r : Fin 3) : Win7 := ⟨⟨k0_off38 d (word r), k0_off38_inb d r⟩, k0_off38_wordsbf16 d r⟩
def l39 (d : Dev nD) (r : Fin 3) : Off6 := ⟨k0_off39 d (word r), k0_off39_inb d r⟩
def kv40 (d : Dev nD) (r : Fin 3) : OffKV := ⟨fun h => k0_off40 d (word r) (BitVec.ofNat 32 h.val), k0_off40_inb d r⟩
def l41 (d : Dev nD) (r : Fin 3) : Off7 := ⟨k0_off41 d (word r), k0_off41_inb d r⟩
def kv42 (d : Dev nD) (r : Fin 3) : OffKV := ⟨fun h => k0_off42 d (word r) (BitVec.ofNat 32 h.val), k0_off42_inb d r⟩
def w43 (d : Dev nD) (r : Fin 3) : Win6 := ⟨⟨k0_off43 d (word r), k0_off43_inb d r⟩, k0_off43_wordsbf16 d r⟩
def w44 (d : Dev nD) (r : Fin 3) : Win7 := ⟨⟨k0_off44 d (word r), k0_off44_inb d r⟩, k0_off44_wordsbf16 d r⟩
def l45 (d : Dev nD) (r : Fin 3) : Off6 := ⟨k0_off45 d (word r), k0_off45_inb d r⟩
def kv46 (d : Dev nD) (r : Fin 3) : OffKV := ⟨fun h => k0_off46 d (word r) (BitVec.ofNat 32 h.val), k0_off46_inb d r⟩
def l47 (d : Dev nD) (r : Fin 3) : Off7 := ⟨k0_off47 d (word r), k0_off47_inb d r⟩
def kv48 (d : Dev nD) (r : Fin 3) : OffKV := ⟨fun h => k0_off48 d (word r) (BitVec.ofNat 32 h.val), k0_off48_inb d r⟩

/-! ## The program -/

/-- The barrier, the device's own weights put in place and sent to its five peers. -/
def rawStart (d : Dev nD) (k : P F) : P F :=
  barrierK ![⟨k0_dev1 d, k0_dev1_lt d⟩, ⟨k0_dev2 d, k0_dev2_lt d⟩, ⟨k0_dev3 d, k0_dev3_lt d⟩, ⟨k0_dev4 d, k0_dev4_lt d⟩, ⟨k0_dev5 d, k0_dev5_lt d⟩] <|
  ownK (own6 d) (k0_off1_packedbf16 d) (own7 d) (k0_off2_packedbf16 d) <|
  sendK 0 (w3 d) (w4 d) ⟨k0_dev6 d, k0_dev6_lt d⟩ ⟨k0_dev7 d, k0_dev7_lt d⟩ <|
  sendK 1 (w3 d) (w4 d) ⟨k0_dev8 d, k0_dev8_lt d⟩ ⟨k0_dev9 d, k0_dev9_lt d⟩ <|
  sendK 2 (w3 d) (w4 d) ⟨k0_dev10 d, k0_dev10_lt d⟩ ⟨k0_dev11 d, k0_dev11_lt d⟩ <|
  sendK 3 (w3 d) (w4 d) ⟨k0_dev12 d, k0_dev12_lt d⟩ ⟨k0_dev13 d, k0_dev13_lt d⟩ <|
  sendK 4 (w3 d) (w4 d) ⟨k0_dev14 d, k0_dev14_lt d⟩ ⟨k0_dev15 d, k0_dev15_lt d⟩ <|
  firstK 0 (own6 d) (own7 d) (kv5 d) <| firstK 1 (own6 d) (own7 d) (kv6 d) k

/-- The chunks of the device's own plane. -/
def rawPlane (d : Dev nD) (k : P F) : P F :=
  recvK 3 (w7 d) (w8 d) id (l9 d) (l11 d) (kv10 d) (kv12 d) <|
  recvK 4 (w13 d) (w14 d) (sendK 5 (w13 d) (w14 d) ⟨k0_dev16 d, k0_dev16_lt d⟩ ⟨k0_dev17 d, k0_dev17_lt d⟩) (l15 d) (l17 d) (kv16 d) (kv18 d) <|
  recvK 5 (w19 d) (w20 d) id (l21 d) (l23 d) (kv22 d) (kv24 d) k

/-- The chunks of another plane: from the mate there (slot `z`), from the two neighbours (`x`, `y`), and the diagonal (`e`), with
    what is sent on after each. -/
def rawRound (d : Dev nD) (r : Fin 3) (z x y e : Fin 15) (fz fx fy : P F → P F) (k : P F) : P F :=
  recvK z (w25 d r) (w26 d r) fz (l27 d r) (l29 d r) (kv28 d r) (kv30 d r) <|
  recvK x (w31 d r) (w32 d r) fx (l33 d r) (l35 d r) (kv34 d r) (kv36 d r) <|
  recvK y (w37 d r) (w38 d r) fy (l39 d r) (l41 d r) (kv40 d r) (kv42 d r) <|
  recvK e (w43 d r) (w44 d r) id (l45 d r) (l47 d r) (kv46 d r) (kv48 d r) k

/-- The three other planes. -/
def rawRounds (d : Dev nD) (k : P F) : P F :=
  rawRound d 0 2 6 7 8
    (fun k => sendK 6 (w25 d 0) (w26 d 0) ⟨k0_dev18 d, k0_dev18_lt d⟩ ⟨k0_dev19 d, k0_dev19_lt d⟩ <|
      sendK 7 (w25 d 0) (w26 d 0) ⟨k0_dev20 d, k0_dev20_lt d⟩ ⟨k0_dev21 d, k0_dev21_lt d⟩ k)
    (sendK 8 (w31 d 0) (w32 d 0) ⟨k0_dev22 d, k0_dev22_lt d⟩ ⟨k0_dev23 d, k0_dev23_lt d⟩) id <|
  rawRound d 1 1 9 10 11
    (fun k => sendK 9 (w25 d 1) (w26 d 1) ⟨k0_dev24 d, k0_dev24_lt d⟩ ⟨k0_dev25 d, k0_dev25_lt d⟩ <|
      sendK 10 (w25 d 1) (w26 d 1) ⟨k0_dev26 d, k0_dev26_lt d⟩ ⟨k0_dev27 d, k0_dev27_lt d⟩ k)
    id (sendK 11 (w37 d 1) (w38 d 1) ⟨k0_dev28 d, k0_dev28_lt d⟩ ⟨k0_dev29 d, k0_dev29_lt d⟩) <|
  rawRound d 2 0 12 13 14
    (fun k => sendK 12 (w25 d 2) (w26 d 2) ⟨k0_dev30 d, k0_dev30_lt d⟩ ⟨k0_dev31 d, k0_dev31_lt d⟩ <|
      sendK 13 (w25 d 2) (w26 d 2) ⟨k0_dev32 d, k0_dev32_lt d⟩ ⟨k0_dev33 d, k0_dev33_lt d⟩ k)
    (sendK 14 (w31 d 2) (w32 d 2) ⟨k0_dev34 d, k0_dev34_lt d⟩ ⟨k0_dev35 d, k0_dev35_lt d⟩) id k

/-- The wait for every transfer sent. -/
def rawEnd (d : Dev nD) : P F :=
  waitK 0 0 (w3 d) (w4 d) <| waitK 1 0 (w3 d) (w4 d) <| waitK 2 0 (w3 d) (w4 d) <| waitK 3 0 (w3 d) (w4 d) <| waitK 4 0 (w3 d) (w4 d) <|
  waitK 5 0 (w13 d) (w14 d) <|
  waitK 6 0 (w25 d 0) (w26 d 0) <| waitK 7 0 (w25 d 0) (w26 d 0) <| waitK 8 0 (w31 d 0) (w32 d 0) <|
  waitK 9 0 (w25 d 1) (w26 d 1) <| waitK 10 0 (w25 d 1) (w26 d 1) <| waitK 11 0 (w37 d 1) (w38 d 1) <|
  waitK 12 0 (w25 d 2) (w26 d 2) <| waitK 13 0 (w25 d 2) (w26 d 2) <| waitK 14 0 (w31 d 2) (w32 d 2) <| .ret ⟨⟩

/-- The whole body at device `d`. -/
def rawAt (d : Dev nD) : P F := rawStart d <| rawPlane d <| rawRounds d <| rawEnd d

/-- The body on its buffers is the device's number read, and the program at it. -/
theorem body_raw :
    cc0_body (F := F) mX (Memref.isWhole_whole _) mWq (Memref.isWhole_whole _) mWo (Memref.isWhole_whole _) mK (Memref.isWhole_whole _)
      mV (Memref.isWhole_whole _) mOut (Memref.isWhole_whole _) mQ (Memref.isWhole_whole _) mO (Memref.isWhole_whole _) mC (Memref.isWhole_whole _)
      cc0_scratch3 cc0_scratch4 cc0_scratch5 cc0_scratch6 cc0_scratch7 cc0_scratch8 cc0_scratch9 cc0_scratch10 cc0_scratch11 cc0_scratch12
      cc0_scratch13 cc0_scratch14
      = .op .deviceId fun d => rawAt d := by
  sl_kernel_rfl

end Cert.KernelIdeal.Fused

end
-- ==== Proof.Mesh.lean ====
/- The mesh as the kernel walks it: who sends which chunk to whom in each of the fifteen transfers, and the program at the
   windows and devices so named. -/
module

public import proofs.«01_k».proof.Proof.Raw

@[expose] public section

noncomputable section

namespace Cert.KernelIdeal.Fused

open Idealize.ShloMosaic Idealize.ShloMosaic.TcCoe
open Idealize.SL Idealize.SL.Sem
open Cert.KernelIdeal Cert.KernelIdeal.Gen

variable {F : FTy → Type} [FloatOps F] [Named F]

/-! ## Neighbours -/

/-- The device `d` planes further at the same place. -/
def mate (c : Dev nD) (d : Nat) : Dev nD := ⟨(c.val + 4 * d) % 16, Nat.mod_lt _ (by decide)⟩
/-- The horizontal neighbour in the plane. -/
def xn (c : Dev nD) : Dev nD := ⟨(c.val + 1 - 2 * (c.val % 2)) % 16, Nat.mod_lt _ (by decide)⟩
/-- The vertical neighbour in the plane. -/
def yn (c : Dev nD) : Dev nD := ⟨(c.val + 3 - 2 * (c.val % 4)) % 16, Nat.mod_lt _ (by decide)⟩

/-! ## The transfers

Slots 0 to 2 go to the mates, 3 and 4 to the neighbours with the device's own chunk; 5, 8, 11, 14 pass on a chunk a
neighbour sent; the others pass on a mate's chunk. -/

/-- How slot `s` runs: 0 to a mate, 1 and 2 to the horizontal and vertical neighbour with a chunk of the own line of planes,
    3 and 4 the same with a chunk of the other neighbour's line. -/
def kind : Fin 15 → Fin 5 := ![0, 0, 0, 1, 2, 3, 1, 2, 4, 1, 2, 3, 1, 2, 4]
/-- The planes crossed. -/
def depth : Fin 15 → Nat := ![1, 2, 3, 0, 0, 0, 1, 1, 1, 2, 2, 2, 3, 3, 3]

/-- To whom `c` sends in slot `s`. -/
def tgt (c : Dev nD) (s : Fin 15) : Dev nD := ![mate c (depth s), xn c, yn c, xn c, yn c] (kind s)
/-- From whom `c` receives in slot `s`. -/
def src (c : Dev nD) (s : Fin 15) : Dev nD := ![mate c (4 - depth s), xn c, yn c, xn c, yn c] (kind s)
/-- Whose chunk `c` sends in slot `s`. -/
def outc (c : Dev nD) (s : Fin 15) : Dev nD :=
  ![c, mate c (depth s), mate c (depth s), mate (yn c) (depth s), mate (xn c) (depth s)] (kind s)
/-- Whose chunk `c` receives in slot `s`. -/
def inc (c : Dev nD) (s : Fin 15) : Dev nD := outc (src c s) s

theorem tgt_src (c : Dev nD) (s : Fin 15) : tgt (src c s) s = c := by revert c s; decide +kernel
theorem src_tgt (c : Dev nD) (s : Fin 15) : src (tgt c s) s = c := by revert c s; decide +kernel
theorem inc_tgt (c : Dev nD) (s : Fin 15) : inc (tgt c s) s = outc c s := by rw [inc, src_tgt]

/-- The slots in the order in which they are received. -/
def rs : Fin 15 → Fin 15 := ![3, 4, 5, 2, 6, 7, 8, 1, 9, 10, 11, 0, 12, 13, 14]
/-- What is sent on after each is received. -/
def sl : Fin 15 → List (Fin 15) := ![[], [5], [], [6, 7], [8], [], [], [9, 10], [], [11], [], [12, 13], [14], [], []]

/-! ## The windows by chunk -/

theorem inb6 (j : Dev nD) : ∀ a, (![0, 256 * j.val] : Fin 2 → Nat) a + S512x256.size a ≤ S512x4096.size a := by
  revert j; decide +kernel
theorem inb7 (j : Dev nD) : ∀ a, (![256 * j.val, 0] : Fin 2 → Nat) a + S256x512.size a ≤ S4096x512.size a := by
  revert j; decide +kernel
/-- Chunk `j`'s columns. -/
def off6 (j : Dev nD) : Off6 := ⟨![0, 256 * j.val], inb6 j⟩
/-- Chunk `j`'s rows. -/
def off7 (j : Dev nD) : Off7 := ⟨![256 * j.val, 0], inb7 j⟩
theorem words6 (j : Dev nD) : (off6 j).rect.WholeWords (EltTy.packing .bf16) := by
  have h := k0_off3_wordsbf16 j
  simp only [k0_off3_eq] at h; exact h
theorem words7 (j : Dev nD) : (off7 j).rect.WholeWords (EltTy.packing .bf16) := by
  have h := k0_off4_wordsbf16 j
  simp only [k0_off4_eq] at h; exact h
theorem packed6 (j : Dev nD) : (off6 j).rect.PackedRows (EltTy.packing .bf16) := by
  have h := k0_off1_packedbf16 j
  simp only [k0_off1_eq] at h; exact h
theorem packed7 (j : Dev nD) : (off7 j).rect.PackedRows (EltTy.packing .bf16) := by
  have h := k0_off2_packedbf16 j
  simp only [k0_off2_eq] at h; exact h
/-- Chunk `j`'s columns, as a transfer's window. -/
def col (j : Dev nD) : Win6 := ⟨off6 j, words6 j⟩
/-- Chunk `j`'s rows, as a transfer's window. -/
def row (j : Dev nD) : Win7 := ⟨off7 j, words7 j⟩

theorem inbKV (b : Fin 2) (j : Dev nD) (h : Fin 4) :
    ∀ a, (![b.val, 4 * j.val + h.val, 0, 0] : Fin 4 → Nat) a + S1x1x256x64.size a ≤ S2x64x256x64.size a := by
  revert b j h; decide +kernel
/-- Chunk `j`'s heads of batch element `b`. -/
def kvAt (b : Fin 2) (j : Dev nD) : OffKV := ⟨fun h => ![b.val, 4 * j.val + h.val, 0, 0], inbKV b j⟩

theorem Off6.eq_off {w : Off6} {j : Dev nD} (h : w.o = ![0, 256 * j.val]) : w = off6 j := by
  cases w; cases h; rfl
theorem Off7.eq_off {w : Off7} {j : Dev nD} (h : w.o = ![256 * j.val, 0]) : w = off7 j := by
  cases w; cases h; rfl
theorem Win6.eq_col {w : Win6} {j : Dev nD} (h : w.o = ![0, 256 * j.val]) : w = col j := by
  obtain ⟨w, p⟩ := w; obtain rfl := Off6.eq_off h; rfl
theorem Win7.eq_row {w : Win7} {j : Dev nD} (h : w.o = ![256 * j.val, 0]) : w = row j := by
  obtain ⟨w, p⟩ := w; obtain rfl := Off7.eq_off h; rfl
theorem OffKV.eq_at {w : OffKV} {b : Fin 2} {j : Dev nD} (h : ∀ h, w.o h = ![b.val, 4 * j.val + h.val, 0, 0]) : w = kvAt b j := by
  obtain ⟨o, p⟩ := w; obtain rfl : o = _ := funext h; rfl

/-! ## The program by chunk -/

/-- Send slot `s`. -/
def sendC (c : Dev nD) (s : Fin 15) (k : P F) : P F := sendK s (col (outc c s)) (row (outc c s)) (tgt c s) (tgt c s) k
/-- Process chunk `j`. -/
def chunkC (j : Dev nD) (k : P F) : P F := chunkK (off6 j) (off7 j) (kvAt 0 j) (kvAt 1 j) k
/-- Receive the `i`-th slot in order, send on, process. -/
def recvC (c : Dev nD) (i : Fin 15) (k : P F) : P F :=
  waitK (rs i) 1 (col (inc c (rs i))) (row (inc c (rs i))) <| (sl i).foldr (sendC c) <| chunkC (inc c (rs i)) k
/-- Wait for slot `s` to have been sent. -/
def doneC (c : Dev nD) (s : Fin 15) (k : P F) : P F := waitK s 0 (col (outc c s)) (row (outc c s)) k
/-- To whom the barrier's five signals go. -/
def peer (c : Dev nD) : Fin 5 → Dev nD := ![mate c 1, mate c 2, mate c 3, xn c, yn c]
/-- The own chunk's processing. -/
def ownC (c : Dev nD) (k : P F) : P F := firstK 0 (off6 c) (off7 c) (kvAt 0 c) <| firstK 1 (off6 c) (off7 c) (kvAt 1 c) k

/-- The body at device `c`. -/
def progAt (c : Dev nD) : P F :=
  barrierK (peer c) <| ownK (off6 c) (packed6 c) (off7 c) (packed7 c) <|
  [0, 1, 2, 3, 4].foldr (sendC c) <| ownC c <|
  (List.finRange 15).foldr (recvC c) <| (List.finRange 15).foldr (doneC c) <| .ret ⟨⟩

end Cert.KernelIdeal.Fused

end
-- ==== Proof.Protocol.lean ====
/- The protocol the devices follow: what each semaphore is paid with, by whom and how often, and in which order it may be waited for.

   The barrier's semaphore gets one unit from each of five peers; with it the peer hands over the places it lets this device write
   to. Slot `s` has four semaphores on each device: sent and received, for the query leg and for the output leg. The receiver's is
   paid by the sender's copy with the chunk at its place; the sender's own gives the share of the chunk it read back. -/
module

public import proofs.«01_k».proof.Proof.Mesh
public import Idealize.ShloMosaic.Lib.Pipeline.Regions
public import Idealize.ShloMosaic.Lib.Pipeline.Kit
public import Idealize.ShloMosaic.Lib.Rounds
public import Idealize.ShloMosaic.Lib.ShareLeaves
public import Idealize.ShloMosaic.Lib.Tactic
public import Idealize.ShloMosaic.Lib.Pipeline.RegionTalk

@[expose] public section

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

/-! ## The ghost state's algebra -/

/-- The staging pipeline's copy of the rounds algebra, and the protocol's, whose cells have up to five duties a round. -/
abbrev UU : Type := Idealize.ShloMosaic.UR sig nD τ × Rounds.URounds (GSem nD τ sig) (Fin 5)

local notation "𝕄" => MT nD τ sig Unit (Elt F) ℕ UU ℕ

abbrev EP : Emb (Idealize.ShloMosaic.UR sig nD τ) (MT nD τ sig Unit (Elt F) ℕ UU ℕ) := embL
abbrev ER : Emb (Rounds.URounds (GSem nD τ sig) (Fin 5)) (MT nD τ sig Unit (Elt F) ℕ UU ℕ) := embR

/-! ## Cells -/

abbrev barCell (c : Dev nD) : GSem nD τ sig := ((c : Thread nD τ), .reg barS)
abbrev cell (c : Dev nD) (s : Fin 15) (k : Fin 4) : GSem nD τ sig := ((c : Thread nD τ), .dma (slotSem s k))

/-- The slot and leg a semaphore serves. -/
def slotOf (x : DmaSem sig) : Option (Fin 15 × Fin 4) :=
  ((List.finRange 15).product (List.finRange 4)).find? fun p => slotSem p.1 p.2 = x

theorem slotOf_sem (s : Fin 15) (k : Fin 4) : slotOf (slotSem s k) = some (s, k) := by revert s k; decide +kernel

theorem slotSem_inj {s s' : Fin 15} {k k' : Fin 4} (h : slotSem s k = slotSem s' k') : s = s' ∧ k = k' := by
  have e := congrArg slotOf h
  rw [slotOf_sem, slotOf_sem] at e
  exact Prod.mk.inj (Option.some.inj e)

theorem cell_inj {c c' : Dev nD} {s s' : Fin 15} {k k' : Fin 4} (h : cell c s k = cell c' s' k') : c = c' ∧ s = s' ∧ k = k' := by
  have h1 : c = c' := congrArg (fun g : GSem nD τ sig => g.1.1) h
  have h2 : SemLoc.dma (slotSem s k) = (SemLoc.dma (slotSem s' k') : SemLoc sig) := congrArg Prod.snd h
  exact ⟨h1, slotSem_inj (SemLoc.dma.inj h2)⟩

/-- The credit of a query leg's copy and of an output leg's. -/
def N6 : ℕ := (col 0).mem.view.dmaCredit
def N7 : ℕ := (row 0).mem.view.dmaCredit
theorem N6_pos : 0 < N6 := View.dmaCredit_pos _ (by decide)
theorem N7_pos : 0 < N7 := View.dmaCredit_pos _ (by decide)
theorem credit6 (j : Dev nD) : (col j).mem.view.dmaCredit = N6 := rfl
theorem credit7 (j : Dev nD) : (row j).mem.view.dmaCredit = N7 := rfl
/-- The credit of each of a slot's semaphores. -/
def amt : Fin 4 → ℕ := ![N6, N6, N7, N7]
theorem amt_pos (k : Fin 4) : 0 < amt k := by fin_cases k <;> first | exact N6_pos | exact N7_pos

/-! ## Places and what lies there -/

/-- Contents of the gathered query weights, and of the gathered output weights. -/
abbrev BQ (F : FTy → Type) : Type := cc0_scratch0.ty.Contents (Elt F)
abbrev BO (F : FTy → Type) : Type := cc0_scratch1.ty.Contents (Elt F)

/-- Chunk `j`'s columns of device `c`'s gathered query weights, at share `q`, holding `f`'s. -/
def ptQ (c j : Dev nD) (q : PosShare TreeShare) (f : BQ F) : sProp 𝕄 := (col j).mem.view.loc (c : Thread nD τ) ↦[(col j).mem.view.set]{q} f
/-- Chunk `j`'s rows of device `c`'s gathered output weights. -/
def ptO (c j : Dev nD) (q : PosShare TreeShare) (f : BO F) : sProp 𝕄 := (row j).mem.view.loc (c : Thread nD τ) ↦[(row j).mem.view.set]{q} f

/-- Chunk `j`'s place on device `c`, whatever it holds. -/
def anyW (c j : Dev nD) : sProp 𝕄 := iprop((∃ f : BQ F, ptQ c j fullShare f) ∗ ∃ f : BO F, ptO c j fullShare f)

/-- The shares a chunk is dealt into, one for each slot that may send it and some kept. -/
abbrev sh (p : Fin (2 ^ 3)) : PosShare TreeShare := ShareLeaves.leaf 3 fullShare p
/-- The share slot `s` sends. -/
def pc : Fin 15 → Fin (2 ^ 3) := ![0, 1, 2, 3, 4, 3, 3, 4, 4, 3, 4, 3, 3, 4, 4]

/-! ## The schedule -/

/-- The slots that send to peer `k`'s… the device that signals as the `k`-th. -/
def grp : Fin 5 → Finset (Fin 15) := ![{2}, {1}, {0}, {3, 5, 6, 9, 11, 12}, {4, 7, 8, 10, 13, 14}]

/-- What device `e` gets so that it may send slot `s`: the place it is to write on the target, and that the target's semaphores are
    ready for it. -/
def slotPay (e : Dev nD) (s : Fin 15) : sProp 𝕄 :=
  iprop(anyW (F := F) (tgt e s) (outc e s) ∗ reached ER (cell (tgt e s) s 1) 0 ∗ reached ER (cell (tgt e s) s 3) 0)

/-- What the `k`-th signal to device `e`'s barrier carries. -/
def barPay (e : Dev nD) (k : Fin 5) : sProp 𝕄 := bigSep (grp k) (slotPay (F := F) e)

/-- What a slot's semaphores on device `c` are paid with. -/
def legPay (WQ : BQ F) (WO : BO F) (c : Dev nD) (s : Fin 15) (k : Fin 4) : sProp 𝕄 :=
  if k = 0 then ptQ c (outc c s) (sh (pc s)) WQ
  else if k = 1 then ptQ c (inc c s) fullShare WQ
  else if k = 2 then ptO c (outc c s) (sh (pc s)) WO
  else ptO c (inc c s) fullShare WO

instance ptQ_storable (c j : Dev nD) (q : PosShare TreeShare) (f : BQ F) : BI.Storable (upEmb : UEmb _ 𝕄) (ptQ c j q f) := by
  unfold ptQ; infer_instance
instance ptO_storable (c j : Dev nD) (q : PosShare TreeShare) (f : BO F) : BI.Storable (upEmb : UEmb _ 𝕄) (ptO c j q f) := by
  unfold ptO; infer_instance
instance slotPay_storable (e : Dev nD) (s : Fin 15) : BI.Storable (upEmb : UEmb _ 𝕄) (slotPay (F := F) e s) := by
  unfold slotPay anyW; infer_instance
instance barPay_storable (e : Dev nD) (k : Fin 5) : BI.Storable (upEmb : UEmb _ 𝕄) (barPay (F := F) e k) := by
  unfold barPay; infer_instance
instance legPay_storable (WQ : BQ F) (WO : BO F) (c : Dev nD) (s : Fin 15) (k : Fin 4) :
    BI.Storable (upEmb : UEmb _ 𝕄) (legPay WQ WO c s k) := by
  unfold legPay; (repeat' split) <;> infer_instance

/-- Duties by semaphore. -/
def semDuties : SemLoc sig → Finset (Fin 5)
  | .reg x => if x = barS then Finset.univ else ∅
  | .dma x => if (slotOf x).isSome then {0} else ∅
/-- Amounts by semaphore. -/
def semAmt : SemLoc sig → ℕ
  | .reg _ => 1
  | .dma x => (slotOf x).elim 1 fun p => amt p.2
/-- Payloads by semaphore. -/
def semPay (WQ : BQ F) (WO : BO F) (c : Dev nD) (d : Fin 5) : SemLoc sig → sProp 𝕄
  | .reg _ => barPay c d
  | .dma x => (slotOf x).elim iprop(emp) fun p => legPay WQ WO c p.1 p.2

variable (WQ : BQ F) (WO : BO F)

/-- One round of every cell: five duties on a barrier cell, one on every slot's cell. -/
def Rd : Rounds.Schedule (GSem nD τ sig) (Fin 5) 𝕄 where
  duties g r := if r = 0 ∧ g.1.2 = .tc then semDuties g.2 else ∅
  unitless _ := False
  amount g _ _ := semAmt g.2
  payload g _ d := semPay WQ WO g.1.1 d g.2
  amount_pos g _ _ _ := by
    rcases h : g.2 with x | x
    · exact Nat.one_pos
    · simp only [semAmt]
      rcases slotOf x with _ | p
      · exact Nat.one_pos
      · exact amt_pos p.2

instance Rd_payload_storable (g : GSem nD τ sig) (r : ℕ) (d : Fin 5) : BI.Storable (upEmb : UEmb _ 𝕄) ((Rd WQ WO).payload g r d) := by
  show BI.Storable upEmb (semPay WQ WO g.1.1 d g.2)
  rcases g.2 with x | x
  · simp only [semPay]; infer_instance
  · simp only [semPay]
    rcases slotOf x with _ | p
    · simp only [Option.elim]; infer_instance
    · simp only [Option.elim]; infer_instance

section Sched

variable (c : Dev nD) (s : Fin 15) (k : Fin 4) (d : Fin 5)

theorem duties_zero (sm : SemLoc sig) : (Rd WQ WO).duties ((c : Thread nD τ), sm) 0 = semDuties sm := by
  dsimp only [Rd]; exact if_pos ⟨rfl, rfl⟩
theorem duties_bar : (Rd WQ WO).duties (barCell c) 0 = Finset.univ := by
  rw [duties_zero]; simp only [semDuties, if_true]
theorem duties_cell : (Rd WQ WO).duties (cell c s k) 0 = {0} := by
  rw [duties_zero]; simp only [semDuties, slotOf_sem, Option.isSome_some, if_true]
theorem duties_later (g : GSem nD τ sig) : ∀ r, 0 + 1 ≤ r → (Rd WQ WO).duties g r = ∅ :=
  fun r hr => if_neg fun h => by omega
theorem amount_bar : (Rd WQ WO).amount (barCell c) 0 d = 1 := rfl
theorem amount_cell (d : Fin 5) : (Rd WQ WO).amount (cell c s k) 0 d = amt k := by
  show (slotOf (slotSem s k)).elim 1 _ = _
  rw [slotOf_sem]; rfl
theorem expect_bar : (Rd WQ WO).expect (barCell c) 0 = 5 := by
  unfold Schedule.expect Schedule.amountOf; rw [duties_bar]
  show ∑ _ : Fin 5, 1 = 5
  decide
theorem expect_cell : (Rd WQ WO).expect (cell c s k) 0 = amt k := by
  unfold Schedule.expect Schedule.amountOf; rw [duties_cell, Finset.sum_singleton, amount_cell]
theorem payload_bar : (Rd WQ WO).payload (barCell c) 0 d = barPay c d := rfl
theorem payload_cell : (Rd WQ WO).payload (cell c s k) 0 d = legPay WQ WO c s k := by
  show (slotOf (slotSem s k)).elim _ _ = _
  rw [slotOf_sem]; rfl
theorem rest_bar : bigSep ((Rd WQ WO).duties (barCell c) 0 \ ∅) (fun u => (Rd WQ WO).payload (barCell c) 0 u)
    = bigSep Finset.univ (barPay (F := F) c) := by
  rw [Finset.sdiff_empty, duties_bar]; rfl
theorem rest_cell : bigSep ((Rd WQ WO).duties (cell c s k) 0 \ ∅) (fun u => (Rd WQ WO).payload (cell c s k) 0 u) = legPay WQ WO c s k := by
  rw [Finset.sdiff_empty, duties_cell, bigSep_singleton, payload_cell]

end Sched

/-! ## What is owed, and the levels -/

/-- The slots from the `n`-th on; those before it. -/
def hi (n : ℕ) : Finset (Fin 15) := Finset.univ.filter fun s => n ≤ s.val
def lo (n : ℕ) : Finset (Fin 15) := Finset.univ.filter fun s => s.val < n

theorem mem_hi {n : ℕ} {s : Fin 15} : s ∈ hi n ↔ n ≤ s.val := by simp [hi]
theorem mem_lo {n : ℕ} {s : Fin 15} : s ∈ lo n ↔ s.val < n := by simp [lo]
theorem hi_eq (s : Fin 15) : hi s.val = insert s (hi (s.val + 1)) := by revert s; decide
theorem notMem_hi (s : Fin 15) : s ∉ hi (s.val + 1) := by revert s; decide
theorem lo_eq (s : Fin 15) : lo (s.val + 1) = insert s (lo s.val) := by revert s; decide
theorem notMem_lo (s : Fin 15) : s ∉ lo s.val := by revert s; decide
theorem hi_zero : hi 0 = Finset.univ := by decide
theorem lo_zero : lo 0 = ∅ := by decide
theorem lo_top : lo 15 = Finset.univ := by decide
theorem hi_top : hi 15 = ∅ := by decide

/-- The credit of slot `s` on its target. -/
def rtal (c : Dev nD) (s : Fin 15) : CellTallies nD τ sig Unit :=
  tallyAt (cell (tgt c s) s 3) () N7 + tallyAt (cell (tgt c s) s 1) () N6
/-- What is owed before slot `n` is sent. -/
def owe (c : Dev nD) (n : ℕ) : CellTallies nD τ sig Unit := ∑ s ∈ hi n, rtal c s
theorem owe_succ (c : Dev nD) (s : Fin 15) :
    owe c s.val = owe c (s.val + 1) + tallyAt (cell (tgt c s) s 3) () N7 + tallyAt (cell (tgt c s) s 1) () N6 := by
  unfold owe; rw [hi_eq, Finset.sum_insert (notMem_hi s), rtal, add_comm, add_assoc]
theorem owe_top (c : Dev nD) : owe c 15 = 0 := by unfold owe; rw [hi_top, Finset.sum_empty]

/-- The unit of the `k`-th signal. -/
abbrev btal (c : Dev nD) (k : Fin 5) : CellTallies nD τ sig Unit := tallyAt (barCell (peer c k)) () 1
/-- What is owed at the launch. -/
def O₀ (c : Dev nD) : CellTallies nD τ sig Unit := owe c 0 + btal c 4 + btal c 3 + btal c 2 + btal c 1 + btal c 0

def L (g : GSem nD τ sig) : Finset Unit := if g.1.2 = .tc then {()} else ∅
/-- The order in which slots may be waited for. -/
def lvl : Fin 15 → ℕ := ![2, 2, 2, 2, 2, 3, 4, 4, 5, 6, 6, 7, 8, 8, 9]
/-- The level of a semaphore: the barrier's first, then received slots in order; a sent one waits for nothing. -/
def semLv : SemLoc sig → ℕ
  | .reg _ => 1
  | .dma x => (slotOf x).elim 0 fun p => if p.2 = 1 ∨ p.2 = 3 then lvl p.1 else 0
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (s : Fin 15) (k : Fin 4) (hk : k = 1 ∨ k = 3) (u : Unit) : lv (cell c s k) u = lvl s := by
  show (slotOf (slotSem s k)).elim _ _ = _
  rw [slotOf_sem]; exact if_pos hk

theorem tally_pos {g g' : GSem nD τ sig} {u : Unit} {n : ℕ} (h : 0 < (tallyAt g' () n : CellTallies nD τ sig Unit) g u) : g = g' := by
  rw [tallyAt_apply] at h
  split at h
  · next hg => exact hg.1
  · exact absurd h (Nat.lt_irrefl 0)

theorem add_pos' {A B : CellTallies nD τ sig Unit} {g : GSem nD τ sig} {u : Unit} (h : 0 < (A + B) g u) : 0 < A g u ∨ 0 < B g u := by
  rw [Pi.add_apply, Finsupp.add_apply] at h
  exact Nat.add_pos_iff_pos_or_pos.mp h

/-- What is owed before slot `n` lies at the received semaphores of the slots from `n` on. -/
theorem owe_pos {c : Dev nD} {n : ℕ} {g : GSem nD τ sig} {u : Unit} (h : 0 < owe c n g u) :
    ∃ s : Fin 15, n ≤ s.val ∧ ∃ k : Fin 4, (k = 1 ∨ k = 3) ∧ g = cell (tgt c s) s k := by
  unfold owe at h
  have hs : ∃ s ∈ hi n, 0 < rtal c s g u := by
    by_contra hc
    push Not at hc
    rw [Finset.sum_apply, Finsupp.finset_sum_apply, Finset.sum_eq_zero fun s hs => Nat.le_zero.mp (hc s hs)] at h
    exact absurd h (Nat.lt_irrefl 0)
  obtain ⟨s, hs, h⟩ := hs
  refine ⟨s, mem_hi.mp hs, ?_⟩
  rcases add_pos' h with h | h
  · exact ⟨3, .inr rfl, tally_pos h⟩
  · exact ⟨1, .inl rfl, tally_pos h⟩

/-- The levels, as a device carries them. -/
def levs : sProp 𝕄 := levAts L lv
instance levs_persistent : BI.Persistent (levs (F := F)) := by unfold levs; infer_instance

/-- A semaphore below every slot still to be sent may be waited for. -/
theorem mayWait (c : Dev nD) (sm : SemLoc sig) (n : ℕ) (h : ∀ s : Fin 15, n ≤ s.val → semLv sm < lvl s) :
    levs (F := F) ⊢ MayWait (c : Thread nD τ) sm () (owe c n) :=
  MayOwe.of_cut (L := L) (lev := lv) (semLv sm) (fun p hp => by rw [Finset.mem_singleton.mp hp, L_tc]; exact Finset.mem_singleton_self _)
    (fun g u hg => by
      obtain ⟨s, -, k, -, rfl⟩ := owe_pos hg
      rw [L_tc]; exact Finset.mem_singleton_self _)
    (fun p hp => by rw [Finset.mem_singleton.mp hp]; exact le_refl _)
    (fun g u hg => by
      obtain ⟨s, hs, k, hk, rfl⟩ := owe_pos hg
      rw [lv_recv _ s k hk]; exact h s hs)

end Cert.KernelIdeal.Fused

end
-- ==== Proof.Steps.lean ====
/- The kernel's communication steps: one send, one wait for both legs of a slot, each once at a symbolic device and slot. -/
module

public import proofs.«01_k».proof.Proof.Protocol

@[expose] public section

set_option maxRecDepth 8000

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

abbrev 𝒱₀ : Variants := Variants.none

variable (WQ : BQ F) (WO : BO F)

/-- The weakest precondition of a piece of the body on device `c`. -/
abbrev WP (c : Dev nD) (Q : PUnit → sProp (MT nD τ sig Unit (Elt F) ℕ UU ℕ)) (k : P F) : sProp (MT nD τ sig Unit (Elt F) ℕ UU ℕ) :=
  wp frame (wpE (defs₀ (F := F)) 𝒱₀ (c : Thread nD τ) none) Set.univ k Q

/-- One summand kept, the rest dropped. -/
theorem elimAt {I : Type} [DecidableEq I] {S : Finset I} {i : I} (h : i ∈ S) {Φ : I → sProp 𝕄} : bigSep S Φ ⊢ Φ i := bigSep_elim h

/-! ## What every step may use -/

/-- Every cell's invariant. -/
def recs (K : GSem nD τ sig → ℕ) : sProp 𝕄 :=
  iprop((bigSep Finset.univ fun c : Dev nD => cellInv ER (Rd WQ WO) (K (barCell c)) (barCell c))
    ∗ bigSep Finset.univ fun p : Dev nD × Fin 15 × Fin 4 => cellInv ER (Rd WQ WO) (K (cell p.1 p.2.1 p.2.2)) (cell p.1 p.2.1 p.2.2))

/-- The invariants, the levels, and that each of the device's own cells and every barrier cell is at its round. -/
def env (K : GSem nD τ sig → ℕ) (c : Dev nD) : sProp 𝕄 :=
  iprop(recs WQ WO K ∗ levs (F := F) ∗ (bigSep Finset.univ fun p : Fin 15 × Fin 4 => reached ER (cell c p.1 p.2) 0)
    ∗ bigSep Finset.univ fun d : Dev nD => reached ER (barCell d) 0)

instance recs_persistent (K : GSem nD τ sig → ℕ) : BI.Persistent (recs WQ WO K) := by unfold recs; infer_instance
instance env_persistent (K : GSem nD τ sig → ℕ) (c : Dev nD) : BI.Persistent (env WQ WO K c) := by unfold env; infer_instance

theorem recs_bar (K : GSem nD τ sig → ℕ) (c : Dev nD) : recs WQ WO K ⊢ cellInv ER (Rd WQ WO) (K (barCell c)) (barCell c) := by
  unfold recs
  iintro ⟨H, -⟩
  iapply (elimAt (Φ := fun c : Dev nD => cellInv ER (Rd WQ WO) (K (barCell c)) (barCell c)) (Finset.mem_univ c)) $$ H
theorem recs_cell (K : GSem nD τ sig → ℕ) (c : Dev nD) (s : Fin 15) (k : Fin 4) :
    recs WQ WO K ⊢ cellInv ER (Rd WQ WO) (K (cell c s k)) (cell c s k) := by
  unfold recs
  iintro ⟨-, H⟩
  iapply (elimAt (Φ := fun p : Dev nD × Fin 15 × Fin 4 => cellInv ER (Rd WQ WO) (K (cell p.1 p.2.1 p.2.2)) (cell p.1 p.2.1 p.2.2)) (Finset.mem_univ (c, s, k))) $$ H
theorem env_bar (K : GSem nD τ sig → ℕ) (c d : Dev nD) : env WQ WO K c ⊢ cellInv ER (Rd WQ WO) (K (barCell d)) (barCell d) := by
  unfold env
  iintro ⟨H, -, -⟩
  iapply (recs_bar WQ WO K d) $$ H
theorem env_cell (K : GSem nD τ sig → ℕ) (c d : Dev nD) (s : Fin 15) (k : Fin 4) :
    env WQ WO K c ⊢ cellInv ER (Rd WQ WO) (K (cell d s k)) (cell d s k) := by
  unfold env
  iintro ⟨H, -, -⟩
  iapply (recs_cell WQ WO K d s k) $$ H
theorem env_lev (K : GSem nD τ sig → ℕ) (c : Dev nD) : env WQ WO K c ⊢ levs (F := F) := by
  unfold env
  iintro ⟨-, H, -⟩
  iexact H
theorem env_reached (K : GSem nD τ sig → ℕ) (c : Dev nD) (s : Fin 15) (k : Fin 4) : env WQ WO K c ⊢ reached ER (cell c s k) 0 := by
  unfold env
  iintro ⟨-, -, H, -⟩
  iapply (elimAt (Φ := fun p : Fin 15 × Fin 4 => reached ER (cell c p.1 p.2) 0) (Finset.mem_univ (s, k))) $$ H

theorem env_reachedBar (K : GSem nD τ sig → ℕ) (c d : Dev nD) : env WQ WO K c ⊢ reached ER (barCell d) 0 := by
  unfold env
  iintro ⟨-, -, -, H⟩
  iapply (elimAt (Φ := fun d : Dev nD => reached ER (barCell d) 0) (Finset.mem_univ d)) $$ H

/-! ## One send -/

/-- What sending slot `s` spends besides the chunk: the four duties, the peer's place, and the own cells' positions to wait at later. -/
def sendRes (c : Dev nD) (s : Fin 15) : sProp 𝕄 :=
  iprop((dutyTok ER (cell c s 0) 0 0 ∗ dutyTok ER (cell (tgt c s) s 1) 0 0 ∗ dutyTok ER (cell c s 2) 0 0 ∗ dutyTok ER (cell (tgt c s) s 3) 0 0)
    ∗ (atPos ER (cell c s 0) 0 ∅ 0 ∗ atPos ER (cell c s 2) 0 ∅ 0) ∗ slotPay c s)

/-- What waiting for one side of slot `s` spends. -/
def waitRes (c : Dev nD) (s : Fin 15) (r : Fin 2) : sProp 𝕄 :=
  iprop((cred (tallyAt (cell c s ⟨r.val, by omega⟩) () N6) ∗ atPos ER (cell c s ⟨r.val, by omega⟩) 0 ∅ 0)
    ∗ (cred (tallyAt (cell c s ⟨2 + r.val, by omega⟩) () N7) ∗ atPos ER (cell c s ⟨2 + r.val, by omega⟩) 0 ∅ 0))

/-- What a wait leaves of the cells. -/
def doneRes (c : Dev nD) (s : Fin 15) (r : Fin 2) : sProp 𝕄 :=
  iprop(atPos ER (cell c s ⟨r.val, by omega⟩) (0 + 1) ∅ 0 ∗ atPos ER (cell c s ⟨2 + r.val, by omega⟩) (0 + 1) ∅ 0)

/-- A chunk's copy landed is the chunk. -/
theorem land6 (c j : Dev nD) (fd : BQ F) :
    ((col j).mem.view.loc (c : Thread nD τ) ↦[(col j).mem.view.set]{fullShare} ((col j).mem.view.write (Elt F) fd ((col j).mem.view.read (Elt F) WQ) Finset.univ) : sProp 𝕄)
      = ptQ c j fullShare WQ := by
  rw [View.write_read_eq_piecewise]
  exact pointsTo_congr fun i hi => Finset.piecewise_eq_of_mem _ _ _ hi
theorem land7 (c j : Dev nD) (fd : BO F) :
    ((row j).mem.view.loc (c : Thread nD τ) ↦[(row j).mem.view.set]{fullShare} ((row j).mem.view.write (Elt F) fd ((row j).mem.view.read (Elt F) WO) Finset.univ) : sProp 𝕄)
      = ptO c j fullShare WO := by
  rw [View.write_read_eq_piecewise]
  exact pointsTo_congr fun i hi => Finset.piecewise_eq_of_mem _ _ _ hi

theorem legPay0 (c : Dev nD) (s : Fin 15) : legPay WQ WO c s 0 = ptQ c (outc c s) (sh (pc s)) WQ := rfl
theorem legPay1 (c : Dev nD) (s : Fin 15) : legPay WQ WO c s 1 = ptQ c (inc c s) fullShare WQ := rfl
theorem legPay2 (c : Dev nD) (s : Fin 15) : legPay WQ WO c s 2 = ptO c (outc c s) (sh (pc s)) WO := rfl
theorem legPay3 (c : Dev nD) (s : Fin 15) : legPay WQ WO c s 3 = ptO c (inc c s) fullShare WO := rfl

/-- Sending slot `s`: the chunk's shares go, the credits to wait with come, and slot `s` is no longer owed. -/
theorem send_spec (K : GSem nD τ sig → ℕ) (c : Dev nD) (s : Fin 15) (W : Waits sig Unit) (k : P F) (Q : PUnit → sProp 𝕄) :
    iprop(env WQ WO K c ∗ sendRes (F := F) c s ∗ (ptQ c (outc c s) (sh (pc s)) WQ ∗ ptO c (outc c s) (sh (pc s)) WO)
        ∗ owes (c : Thread nD τ) (owe c s.val) W
        ∗ ((waitRes (F := F) c s 0 ∗ owes (c : Thread nD τ) (owe c (s.val + 1)) W) -∗ WP c Q k))
      ⊢ WP c Q (sendC c s k) := by
  unfold sendC sendK sendRes slotPay anyW
  iintro ⟨#HE, ⟨⟨Ht0, Ht1, Ht2, Ht3⟩, ⟨Ha0, Ha2⟩, ⟨⟨%f6, Hd6⟩, %f7, Hd7⟩, #Hr1, #Hr3⟩, ⟨H6, H7⟩, HO, Hk⟩
  iapply (Rounds.wp_send_pointsTo 𝒱₀ ER (Rd WQ WO) (c : Thread nD τ) none (c' := (tgt c s : Thread nD τ)) (src := (col (outc c s)).mem) (dst := (col (outc c s)).mem)
      (sS := .dma (slotSem s 0)) (sem := .dma (slotSem s 1)) (q := sh (pc s)) (fs := WQ) (κ₁ := K (cell c s 0)) (κ₂ := K (cell (tgt c s) s 1))
      (r₁ := 0) (r₂ := 0) (d₁ := 0) (d₂ := 0) (fd := f6)
      (by rw [duties_cell]; exact Finset.mem_singleton_self _) (by rw [duties_cell]; exact Finset.mem_singleton_self _)
      () () N6 rfl (amount_cell WQ WO c s 0 0) (amount_cell WQ WO (tgt c s) s 1 0) _ (owe_succ c s) (W := W)
      (by rw [payload_cell, legPay0]; exact BI.Entails.refl _)
      (by rw [payload_cell, legPay1, inc_tgt]; exact Entails.of_eq (land6 WQ _ _ _))) $$ [H6 Hd6 HO Ht0 Ht1]
  · isplitr; · iapply (env_cell WQ WO K c c s 0); iexact HE
    isplitr; · iapply (env_cell WQ WO K c (tgt c s) s 1); iexact HE
    isplitl [H6]; · unfold ptQ; iexact H6
    isplitl [Hd6]; · unfold ptQ; iexact Hd6
    isplitl [HO]; · iexact HO
    isplitl [Ht0]; · iexact Ht0
    isplitr; · iapply (env_reached WQ WO K c s 0); iexact HE
    isplitl [Ht1]; · iexact Ht1
    iexact Hr1
  iintro ⟨Hc0, HO⟩
  iapply (Rounds.wp_send_pointsTo 𝒱₀ ER (Rd WQ WO) (c : Thread nD τ) none (c' := (tgt c s : Thread nD τ)) (src := (row (outc c s)).mem) (dst := (row (outc c s)).mem)
      (sS := .dma (slotSem s 2)) (sem := .dma (slotSem s 3)) (q := sh (pc s)) (fs := WO) (κ₁ := K (cell c s 2)) (κ₂ := K (cell (tgt c s) s 3))
      (r₁ := 0) (r₂ := 0) (d₁ := 0) (d₂ := 0) (fd := f7)
      (by rw [duties_cell]; exact Finset.mem_singleton_self _) (by rw [duties_cell]; exact Finset.mem_singleton_self _)
      () () N7 rfl (amount_cell WQ WO c s 2 0) (amount_cell WQ WO (tgt c s) s 3 0) _ rfl (W := W)
      (by rw [payload_cell, legPay2]; exact BI.Entails.refl _)
      (by rw [payload_cell, legPay3, inc_tgt]; exact Entails.of_eq (land7 WO _ _ _))) $$ [H7 Hd7 HO Ht2 Ht3]
  · isplitr; · iapply (env_cell WQ WO K c c s 2); iexact HE
    isplitr; · iapply (env_cell WQ WO K c (tgt c s) s 3); iexact HE
    isplitl [H7]; · unfold ptO; iexact H7
    isplitl [Hd7]; · unfold ptO; iexact Hd7
    isplitl [HO]; · iexact HO
    isplitl [Ht2]; · iexact Ht2
    isplitr; · iapply (env_reached WQ WO K c s 2); iexact HE
    isplitl [Ht3]; · iexact Ht3
    iexact Hr3
  iintro ⟨Hc2, HO⟩
  iapply Hk
  unfold waitRes
  isplitr [HO]
  · isplitl [Hc0 Ha0]
    · isplitl [Hc0]; · iexact Hc0
      iexact Ha0
    · isplitl [Hc2]; · iexact Hc2
      iexact Ha2
  iexact HO

/-! ## One wait -/

/-- Waiting for one side of slot `s` while the slots from `n` on are owed, whose levels are higher. -/
theorem wait_spec (K : GSem nD τ sig → ℕ) (c : Dev nD) (s : Fin 15) (r : Fin 2) (j : Dev nD) (n : ℕ)
    (hl : ∀ s' : Fin 15, n ≤ s'.val → semLv (.dma (slotSem s ⟨r.val, by omega⟩)) < lvl s' ∧ semLv (.dma (slotSem s ⟨2 + r.val, by omega⟩)) < lvl s')
    (W : Waits sig Unit) (k : P F) (Q : PUnit → sProp 𝕄) :
    iprop(env WQ WO K c ∗ waitRes (F := F) c s r ∗ owes (c : Thread nD τ) (owe c n) W
        ∗ ((legPay WQ WO c s ⟨r.val, by omega⟩ ∗ legPay WQ WO c s ⟨2 + r.val, by omega⟩ ∗ doneRes (F := F) c s r ∗ ∃ W', owes (c : Thread nD τ) (owe c n) W') -∗ WP c Q k))
      ⊢ WP c Q (waitK s r (col j) (row j) k) := by
  have h6 : amt ⟨r.val, by omega⟩ = N6 := by fin_cases r <;> rfl
  have h7 : amt ⟨2 + r.val, by omega⟩ = N7 := by fin_cases r <;> rfl
  have hk6 : 0 + (col j).mem.view.dmaCredit = (Rd WQ WO).expect (cell c s ⟨r.val, by omega⟩) 0 := by
    rw [credit6, expect_cell, h6, Nat.zero_add]
  have hk7 : 0 + (row j).mem.view.dmaCredit = (Rd WQ WO).expect (cell c s ⟨2 + r.val, by omega⟩) 0 := by
    rw [credit7, expect_cell, h7, Nat.zero_add]
  have hm0 : env WQ WO K c ⊢ MayWait (c : Thread nD τ) (.dma (slotSem s ⟨r.val, by omega⟩)) () (owe c n) :=
    (env_lev WQ WO K c).trans (mayWait c (.dma (slotSem s ⟨r.val, by omega⟩)) n fun s' h => (hl s' h).1)
  have hm2 : env WQ WO K c ⊢ MayWait (c : Thread nD τ) (.dma (slotSem s ⟨2 + r.val, by omega⟩)) () (owe c n) :=
    (env_lev WQ WO K c).trans (mayWait c (.dma (slotSem s ⟨2 + r.val, by omega⟩)) n fun s' h => (hl s' h).2)
  unfold waitK waitRes
  iintro ⟨#HE, ⟨⟨Hc0, Ha0⟩, Hc2, Ha2⟩, HO, Hk⟩
  iapply (Rounds.wp_wait_rest_token 𝒱₀ ER (Rd WQ WO) (c : Thread nD τ) none (κ := K (cell c s ⟨r.val, by omega⟩))
      (wpE_waitDma2_eq (src := (col j).mem) (dst := (col j).mem) 𝒱₀ (c : Thread nD τ) none Set.univ) (Set.mem_univ _) () (O := owe c n) (W := W) (R := 0) (m := 0) (T := ∅)
      hk6) $$ [Hc0 HO Ha0]
  · isplitr; · iapply (env_cell WQ WO K c c s _); iexact HE
    isplitl [Hc0]; · rw [credit6]; iexact Hc0
    isplitl [HO]; · iexact HO
    isplitr; · iapply hm0; iexact HE
    iexact Ha0
  iintro ⟨HO, Ha0, -, Hp0⟩
  iapply (Rounds.wp_wait_rest_token 𝒱₀ ER (Rd WQ WO) (c : Thread nD τ) none (κ := K (cell c s ⟨2 + r.val, by omega⟩))
      (wpE_waitDma2_eq (src := (row j).mem) (dst := (row j).mem) 𝒱₀ (c : Thread nD τ) none Set.univ) (Set.mem_univ _) () (O := owe c n) (R := 0) (m := 0) (T := ∅)
      hk7) $$ [Hc2 HO Ha2]
  · isplitr; · iapply (env_cell WQ WO K c c s _); iexact HE
    isplitl [Hc2]; · rw [credit7]; iexact Hc2
    isplitl [HO]; · iexact HO
    isplitr; · iapply hm2; iexact HE
    iexact Ha2
  iintro ⟨HO, Ha2, -, Hp2⟩
  iapply Hk
  unfold doneRes
  isplitl [Hp0]; · iapply (Entails.of_eq (rest_cell WQ WO c s _)) $$ Hp0
  isplitl [Hp2]; · iapply (Entails.of_eq (rest_cell WQ WO c s _)) $$ Hp2
  isplitl [Ha0 Ha2]
  · isplitl [Ha0]; · iexact Ha0
    iexact Ha2
  iexists _; iexact HO

end Cert.KernelIdeal.Fused

end
-- ==== Proof.Big.lean ====
/- Separating products over finite sets, in the forms the steps of this proof use. -/
module

public import Idealize.SL.ProofMode.BigOp

@[expose] public section

namespace Cert.KernelIdeal.Fused

open Idealize.SL Idealize.SL.RA Idealize.SL.BI
open scoped Idealize.SL.BI
open Idealize.SL.BI.BIBase Idealize.SL.BI.Laws Idealize.SL.ProofMode

variable {M : Type} [URA M] {I J : Type} [DecidableEq I] [DecidableEq J]

/-- The product over a set and one index more. -/
theorem big_insert {s : Finset I} {i : I} (h : i ∉ s) (Φ : I → sProp M) : bigSep (insert i s) Φ = iprop(Φ i ∗ bigSep s Φ) := bigSep_insert h

/-- One factor taken out. -/
theorem big_erase {s : Finset I} {i : I} (h : i ∈ s) (Φ : I → sProp M) : bigSep s Φ = iprop(Φ i ∗ bigSep (s.erase i) Φ) := bigSep_erase h

/-- The product over two disjoint sets. -/
theorem big_union {s t : Finset I} (h : Disjoint s t) (Φ : I → sProp M) : bigSep (s ∪ t) Φ = iprop(bigSep s Φ ∗ bigSep t Φ) := bigSep_union h

/-- The product over a set and the rest of a larger one. -/
theorem big_sdiff {s t : Finset I} (h : t ⊆ s) (Φ : I → sProp M) : bigSep s Φ = iprop(bigSep t Φ ∗ bigSep (s \ t) Φ) := bigSep_sdiff_split h

/-- The product over the empty set. -/
theorem big_empty (Φ : I → sProp M) : bigSep ∅ Φ = iprop(emp) := bigSep_empty

/-- Products factor by factor. -/
theorem big_mono {s : Finset I} {Φ Ψ : I → sProp M} (h : ∀ i ∈ s, Φ i ⊢ Ψ i) : bigSep s Φ ⊢ bigSep s Ψ := bigSep_mono h

/-- A product of products of two factors. -/
theorem big_sep (s : Finset I) (Φ Ψ : I → sProp M) : bigSep s (fun i => iprop(Φ i ∗ Ψ i)) = iprop(bigSep s Φ ∗ bigSep s Ψ) := bigSep_sep' s Φ Ψ

/-- The product over an image. -/
theorem big_image {f : J → I} {t : Finset J} (h : ∀ x ∈ t, ∀ y ∈ t, f x = f y → x = y) (Φ : I → sProp M) :
    bigSep (t.image f) Φ = bigSep t fun x => Φ (f x) := by
  induction t using Finset.induction_on with
  | empty => rw [Finset.image_empty, bigSep_empty, bigSep_empty]
  | insert a s ha ih =>
    rw [Finset.image_insert, big_insert, big_insert ha, ih fun x hx y hy => h x (Finset.mem_insert_of_mem hx) y (Finset.mem_insert_of_mem hy)]
    intro hm
    obtain ⟨y, hy, e⟩ := Finset.mem_image.mp hm
    exact ha (h y (Finset.mem_insert_of_mem hy) a (Finset.mem_insert_self _ _) e ▸ hy)

/-- The product over a union of pairwise disjoint sets. -/
theorem big_biUnion (t : Finset J) (g : J → Finset I) (h : ∀ x ∈ t, ∀ y ∈ t, x ≠ y → Disjoint (g x) (g y)) (Φ : I → sProp M) :
    bigSep (t.biUnion g) Φ = bigSep t fun x => bigSep (g x) Φ := by
  induction t using Finset.induction_on with
  | empty => rw [Finset.biUnion_empty, bigSep_empty, bigSep_empty]
  | insert a s ha ih =>
    rw [Finset.biUnion_insert, big_union, big_insert ha, ih fun x hx y hy => h x (Finset.mem_insert_of_mem hx) y (Finset.mem_insert_of_mem hy)]
    rw [Finset.disjoint_biUnion_right]
    intro y hy
    exact h a (Finset.mem_insert_self _ _) y (Finset.mem_insert_of_mem hy) fun e => ha (e ▸ hy)

/-- The product over pairs, one coordinate after the other. -/
theorem big_product (s : Finset I) (t : Finset J) (Φ : I × J → sProp M) :
    bigSep (s ×ˢ t) Φ = bigSep s fun a => bigSep t fun b => Φ (a, b) := by
  induction s using Finset.induction_on with
  | empty => rw [Finset.empty_product, bigSep_empty, bigSep_empty]
  | insert a s ha ih =>
    have e : insert a s ×ˢ t = (t.image fun b => (a, b)) ∪ s ×ˢ t := by
      ext ⟨x, y⟩
      simp only [Finset.mem_product, Finset.mem_insert, Finset.mem_union, Finset.mem_image, Prod.mk.injEq]
      constructor
      · rintro ⟨rfl | h, h'⟩
        · exact .inl ⟨y, h', rfl, rfl⟩
        · exact .inr ⟨h, h'⟩
      · rintro (⟨b, hb, rfl, rfl⟩ | ⟨h, h'⟩)
        · exact ⟨.inl rfl, hb⟩
        · exact ⟨.inr h, h'⟩
    rw [e, big_union, big_insert ha, ih, ← big_image (f := fun b => (a, b)) (t := t)]
    · intro x _ y _ e; exact (Prod.mk.inj e).2
    · rw [Finset.disjoint_left]
      rintro ⟨x, y⟩ h1 h2
      obtain ⟨z, -, e⟩ := Finset.mem_image.mp h1
      obtain rfl := (Prod.mk.inj e).1
      exact ha (Finset.mem_product.mp h2).1

end Cert.KernelIdeal.Fused
-- ==== Proof.Bar.lean ====
/- The barrier: each of five signals hands a peer the places it may write to; the wait gives the places this device may write to. -/
module

public import proofs.«01_k».proof.Proof.Steps
public import proofs.«01_k».proof.Proof.Big

@[expose] public section

set_option maxRecDepth 8000

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (WQ : BQ F) (WO : BO F)

theorem peer_grp (c : Dev nD) (k : Fin 5) : ∀ s ∈ grp k, peer c k = src c s := by revert c k; decide +kernel
theorem grp_univ : (Finset.univ : Finset (Fin 5)).biUnion grp = Finset.univ := by decide +kernel
theorem grp_disj : ∀ x ∈ (Finset.univ : Finset (Fin 5)), ∀ y ∈ (Finset.univ : Finset (Fin 5)), x ≠ y → Disjoint (grp x) (grp y) := by decide +kernel

/-- A product over the slots, peer by peer. -/
theorem big_grp (Φ : Fin 15 → sProp 𝕄) : bigSep Finset.univ Φ = bigSep Finset.univ fun k : Fin 5 => bigSep (grp k) Φ := by
  rw [← big_biUnion _ _ grp_disj, grp_univ]

/-- The places for the chunks to come, handed to the peer that sends them. -/
theorem bar_pay (K : GSem nD τ sig → ℕ) (c : Dev nD) (k : Fin 5) :
    iprop(env WQ WO K c ∗ bigSep (grp k) fun s => anyW (F := F) c (inc c s)) ⊢ barPay (F := F) (peer c k) k := by
  unfold barPay
  refine bigSep_with_persistent (S := grp k) fun s hs => ?_
  rw [peer_grp c k s hs]; unfold slotPay; rw [tgt_src]
  iintro ⟨#HE, H⟩
  isplitl [H]; · iexact H
  isplitr; · iapply (env_reached WQ WO K c s 1); iexact HE
  iapply (env_reached WQ WO K c s 3); iexact HE

/-- One signal. -/
theorem signal_spec (K : GSem nD τ sig → ℕ) (c : Dev nD) (k : Fin 5) (O : CellTallies nD τ sig Unit) (W : Waits sig Unit) (p : P F)
    (Q : PUnit → sProp 𝕄) :
    iprop(env WQ WO K c ∗ dutyTok ER (barCell (peer c k)) 0 k ∗ (bigSep (grp k) fun s => anyW (F := F) c (inc c s))
        ∗ owes (c : Thread nD τ) (O + btal c k) W ∗ (owes (c : Thread nD τ) O W -∗ WP c Q p))
      ⊢ WP c Q (.op (.semSignal (Dev.tc (peer c k)) barS 1) fun _ => p) := by
  iintro ⟨#HE, Ht, Hp, HO, Hk⟩
  iapply (Rounds.wp_signal 𝒱₀ ER (Rd WQ WO) (c : Thread nD τ) none (dst := (peer c k : Thread nD τ)) (sem := barS) (r := 0) (d := k) (κ := K (barCell (peer c k)))
      (by rw [duties_bar]; exact Finset.mem_univ _) (amount_bar WQ WO (peer c k) k) () O rfl)
    $$ [HO Ht Hp]
  · isplitr; · iapply (env_bar WQ WO K c (peer c k)); iexact HE
    isplitl [HO]; · iexact HO
    isplitl [Ht]; · iexact Ht
    isplitl [Hp]
    · rw [payload_bar]; iapply (bar_pay WQ WO K c k)
      isplitr; · iexact HE
      iexact Hp
    · iapply (env_reachedBar WQ WO K c (peer c k)); iexact HE
  iexact Hk

theorem big5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- The barrier. -/
theorem barrier_spec (K : GSem nD τ sig → ℕ) (c : Dev nD) (W : Waits sig Unit) (p : P F) (Q : PUnit → sProp 𝕄) :
    iprop(env WQ WO K c ∗ (bigSep Finset.univ fun k : Fin 5 => dutyTok ER (barCell (peer c k)) 0 k)
        ∗ (bigSep Finset.univ fun s : Fin 15 => anyW (F := F) c (inc c s))
        ∗ (cred (tallyAt (barCell c) () 5) ∗ atPos ER (barCell c) 0 ∅ 0) ∗ owes (c : Thread nD τ) (O₀ c) W
        ∗ (((bigSep Finset.univ fun s : Fin 15 => slotPay (F := F) c s) ∗ atPos ER (barCell c) (0 + 1) ∅ 0
            ∗ ∃ W', owes (c : Thread nD τ) (owe c 0) W') -∗ WP c Q p))
      ⊢ WP c Q (barrierK (peer c) p) := by
  have hm : env WQ WO K c ⊢ MayWait (c : Thread nD τ) (.reg barS) () (owe c 0) :=
    (env_lev WQ WO K c).trans (mayWait c (.reg barS) 0 fun s _ => by revert s; decide)
  rw [big_grp, big5, big5]
  unfold barrierK O₀
  iintro ⟨#HE, ⟨Ht0, Ht1, Ht2, Ht3, Ht4⟩, ⟨Hp0, Hp1, Hp2, Hp3, Hp4⟩, ⟨Hc, Ha⟩, HO, Hk⟩
  iapply (signal_spec WQ WO K c 0)
  isplitr; · iexact HE
  isplitl [Ht0]; · iexact Ht0
  isplitl [Hp0]; · iexact Hp0
  isplitl [HO]; · iexact HO
  iintro HO
  iapply (signal_spec WQ WO K c 1)
  isplitr; · iexact HE
  isplitl [Ht1]; · iexact Ht1
  isplitl [Hp1]; · iexact Hp1
  isplitl [HO]; · iexact HO
  iintro HO
  iapply (signal_spec WQ WO K c 2)
  isplitr; · iexact HE
  isplitl [Ht2]; · iexact Ht2
  isplitl [Hp2]; · iexact Hp2
  isplitl [HO]; · iexact HO
  iintro HO
  iapply (signal_spec WQ WO K c 3)
  isplitr; · iexact HE
  isplitl [Ht3]; · iexact Ht3
  isplitl [Hp3]; · iexact Hp3
  isplitl [HO]; · iexact HO
  iintro HO
  iapply (signal_spec WQ WO K c 4)
  isplitr; · iexact HE
  isplitl [Ht4]; · iexact Ht4
  isplitl [Hp4]; · iexact Hp4
  isplitl [HO]; · iexact HO
  iintro HO
  iapply (Rounds.wp_wait_rest_token 𝒱₀ ER (Rd WQ WO) (c : Thread nD τ) none (κ := K (barCell c))
      (wpE_semWait_eq 𝒱₀ (c : Thread nD τ) none Set.univ) (Set.mem_univ _) () (O := owe c 0) (W := W) (R := 0) (m := 0) (T := ∅)
      ((Nat.zero_add 5).trans (expect_bar WQ WO c).symm)) $$ [Hc HO Ha]
  · isplitr; · iapply (env_bar WQ WO K c c); iexact HE
    isplitl [Hc]; · iexact Hc
    isplitl [HO]; · iexact HO
    isplitr; · iapply hm; iexact HE
    iexact Ha
  iintro ⟨HO, Ha, -, Hpay⟩
  ihave Hp := (Entails.of_eq (rest_bar WQ WO c)) $$ Hpay
  iapply Hk
  isplitl [Hp]; · rw [big_grp]; unfold barPay; iexact Hp
  isplitl [Ha]; · iexact Ha
  iexists _; iexact HO

end Cert.KernelIdeal.Fused

end
-- ==== Proof.State.lean ====
/- What a device holds between steps: the shares of the chunks arrived and not sent on, the slots still to be sent, received and
   waited for; and each step as a change of that. -/
module

public import proofs.«01_k».proof.Proof.Bar

@[expose] public section

set_option maxRecDepth 8000

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-! ## Which shares are held -/

/-- A share of a chunk. -/
abbrev Piece : Type := Dev nD × Fin (2 ^ 3)

/-- Whose chunks have arrived after `i` receipts. -/
def arr (c : Dev nD) (i : ℕ) : Finset (Dev nD) := insert c ((lo i).image fun i' => inc c (rs i'))
/-- The shares gone with the first `n` slots. -/
def gone (c : Dev nD) (n : ℕ) : Finset Piece := (lo n).image fun s => (outc c s, pc s)
/-- The shares held. -/
def heldP (c : Dev nD) (n i : ℕ) : Finset Piece := (arr c i ×ˢ Finset.univ) \ gone c n
/-- How many slots have been sent once `m` have been received and passed on. -/
def nSent : ℕ → ℕ
  | 0 | 1 => 5
  | 2 | 3 => 6
  | 4 => 8
  | 5 | 6 | 7 => 9
  | 8 | 9 => 11
  | 10 | 11 => 12
  | 12 => 14
  | _ => 15

theorem pc_inj (c : Dev nD) {s s' : Fin 15} (h : (outc c s, pc s) = (outc c s', pc s')) : s = s' := by
  revert c s s'; decide +kernel
theorem pc_ne (s : Fin 15) : pc s ≠ 7 := by revert s; decide
theorem inc_new (c : Dev nD) (i : Fin 15) : inc c (rs i) ∉ arr c i.val := by revert c i; decide +kernel
theorem sent_arr (c : Dev nD) (m : Fin 16) (s : Fin 15) (h : s.val < nSent m.val) : outc c s ∈ arr c m.val := by
  revert c m s; decide +kernel
theorem rs_inj {i i' : Fin 15} (h : rs i = rs i') : i = i' := by revert i i'; decide
theorem rs_univ : (Finset.univ : Finset (Fin 15)).image rs = Finset.univ := by decide
theorem arr_top (c : Dev nD) : arr c 15 = Finset.univ := by revert c; decide +kernel
theorem lv_send (s : Fin 15) (k : Fin 4) (hk : k = 0 ∨ k = 2) : semLv (.dma (slotSem s k)) = 0 := by
  revert s k; decide +kernel
theorem lv_rec (i : Fin 15) (s' : Fin 15) (h : nSent i.val ≤ s'.val) : lvl (rs i) < lvl s' := by revert i s'; decide

theorem arr_succ (c : Dev nD) (i : Fin 15) : arr c (i.val + 1) = insert (inc c (rs i)) (arr c i.val) := by
  unfold arr; rw [lo_eq, Finset.image_insert, Finset.insert_comm]
theorem gone_succ (c : Dev nD) (s : Fin 15) : gone c (s.val + 1) = insert (outc c s, pc s) (gone c s.val) := by
  unfold gone; rw [lo_eq, Finset.image_insert]

/-- Sending a slot takes its share. -/
theorem heldP_send (c : Dev nD) (m : Fin 16) (s : Fin 15) (h : s.val < nSent m.val) :
    (outc c s, pc s) ∈ heldP c s.val m.val ∧ heldP c (s.val + 1) m.val = (heldP c s.val m.val).erase (outc c s, pc s) := by
  constructor
  · refine Finset.mem_sdiff.mpr ⟨Finset.mem_product.mpr ⟨sent_arr c m s h, Finset.mem_univ _⟩, fun hg => ?_⟩
    obtain ⟨s', hs', e⟩ := Finset.mem_image.mp hg
    have := pc_inj c e
    subst this
    exact absurd (mem_lo.mp hs') (Nat.lt_irrefl _)
  · unfold heldP; rw [gone_succ]
    ext p
    simp only [Finset.mem_sdiff, Finset.mem_insert, Finset.mem_erase, not_or]
    constructor
    · rintro ⟨h1, h2, h3⟩; exact ⟨h2, h1, h3⟩
    · rintro ⟨h2, h1, h3⟩; exact ⟨h1, h2, h3⟩

/-- A receipt brings all shares of its chunk. -/
theorem heldP_recv (c : Dev nD) (i : Fin 15) :
    heldP c (nSent i.val) (i.val + 1) = (({inc c (rs i)} : Finset (Dev nD)) ×ˢ Finset.univ) ∪ heldP c (nSent i.val) i.val
      ∧ Disjoint (({inc c (rs i)} : Finset (Dev nD)) ×ˢ (Finset.univ : Finset (Fin (2 ^ 3)))) (heldP c (nSent i.val) i.val) := by
  have hn := inc_new c i
  constructor
  · ext ⟨j, p⟩
    simp only [heldP, arr_succ, Finset.mem_sdiff, Finset.mem_product, Finset.mem_insert, Finset.mem_univ, and_true, Finset.mem_union,
      Finset.mem_singleton]
    constructor
    · rintro ⟨rfl | h, hg⟩
      · exact .inl rfl
      · exact .inr ⟨h, hg⟩
    · rintro (rfl | ⟨h, hg⟩)
      · refine ⟨.inl rfl, fun hg => ?_⟩
        obtain ⟨s, hs, e⟩ := Finset.mem_image.mp hg
        have e1 : outc c s = inc c (rs i) := (Prod.mk.inj e).1
        exact hn (e1 ▸ sent_arr c i.castSucc s (mem_lo.mp hs))
      · exact ⟨.inr h, hg⟩
  · rw [Finset.disjoint_left]
    rintro ⟨j, p⟩ h1 h2
    obtain rfl := Finset.mem_singleton.mp (Finset.mem_product.mp h1).1
    exact hn (Finset.mem_product.mp (Finset.mem_sdiff.mp h2).1).1

/-- The last share of an arrived chunk is always held. -/
theorem heldP_keep (c : Dev nD) (n i : ℕ) {j : Dev nD} (h : j ∈ arr c i) : (j, (7 : Fin (2 ^ 3))) ∈ heldP c n i := by
  refine Finset.mem_sdiff.mpr ⟨Finset.mem_product.mpr ⟨h, Finset.mem_univ _⟩, fun hg => ?_⟩
  obtain ⟨s, -, e⟩ := Finset.mem_image.mp hg
  exact pc_ne s (Prod.mk.inj e).2

variable (WQ : BQ F) (WO : BO F)

/-- A share of a chunk, both legs. -/
def piece (c : Dev nD) (p : Piece) : sProp 𝕄 := iprop(ptQ c p.1 (sh p.2) WQ ∗ ptO c p.1 (sh p.2) WO)

/-- A whole chunk is its shares. -/
theorem chunk_pieces (c j : Dev nD) :
    iprop(ptQ c j fullShare WQ ∗ ptO c j fullShare WO) = bigSep (({j} : Finset (Dev nD)) ×ˢ Finset.univ) (piece WQ WO c) := by
  rw [big_product, bigSep_singleton]
  unfold piece
  rw [big_sep]
  have h6 : ptQ c j fullShare WQ = bigSep Finset.univ fun b => ptQ c j (sh b) WQ := by
    unfold ptQ sh; exact ShareLeaves.pointsTo_leaves (ℓ := (col j).mem.view.loc (c : Thread nD τ)) (col j).mem.view.set WQ 3 fullShare
  have h7 : ptO c j fullShare WO = bigSep Finset.univ fun b => ptO c j (sh b) WO := by
    unfold ptO sh; exact ShareLeaves.pointsTo_leaves (ℓ := (row j).mem.view.loc (c : Thread nD τ)) (row j).mem.view.set WO 3 fullShare
  rw [h6, h7]

/-! ## The state -/

/-- After `n` sends and `i` receipts. -/
def St (c : Dev nD) (n i : ℕ) : sProp 𝕄 :=
  iprop((bigSep (hi n) fun s => sendRes (F := F) c s) ∗ (bigSep (lo n) fun s => waitRes (F := F) c s 0)
    ∗ (bigSep (hi i) fun i' => waitRes (F := F) c (rs i') 1) ∗ (bigSep (lo i) fun i' => doneRes (F := F) c (rs i') 1)
    ∗ bigSep (heldP c n i) (piece WQ WO c) ∗ ∃ W, owes (c : Thread nD τ) (owe c n) W)

/-- A send. -/
theorem St_send (K : GSem nD τ sig → ℕ) (c : Dev nD) (m : Fin 16) (s : Fin 15) (h : s.val < nSent m.val) (k : P F) (Q : PUnit → sProp 𝕄) :
    iprop(env WQ WO K c ∗ St WQ WO c s.val m.val ∗ (St WQ WO c (s.val + 1) m.val -∗ WP c Q k)) ⊢ WP c Q (sendC c s k) := by
  unfold St
  rw [hi_eq, big_insert (notMem_hi s), big_erase (heldP_send c m s h).1, (heldP_send c m s h).2, lo_eq, big_insert (notMem_lo s)]
  iintro ⟨#HE, ⟨⟨Hs, Hss⟩, Hw, Hr, Hd, ⟨Hp, Hps⟩, ⟨%W, HO⟩⟩, Hk⟩
  iapply (send_spec WQ WO K c s W)
  isplitr; · iexact HE
  isplitl [Hs]; · iexact Hs
  isplitl [Hp]; · unfold piece; iexact Hp
  isplitl [HO]; · iexact HO
  iintro ⟨Hw', HO⟩
  iapply Hk
  isplitl [Hss]; · iexact Hss
  isplitl [Hw Hw']
  · isplitl [Hw']; · iexact Hw'
    iexact Hw
  isplitl [Hr]; · iexact Hr
  isplitl [Hd]; · iexact Hd
  isplitl [Hps]; · iexact Hps
  iexists W; iexact HO

theorem legSide0 (c : Dev nD) (s : Fin 15) : legPay WQ WO c s ⟨(0 : Fin 2).val, by decide⟩ = ptQ c (outc c s) (sh (pc s)) WQ := rfl
theorem legSide1 (c : Dev nD) (s : Fin 15) : legPay WQ WO c s ⟨(1 : Fin 2).val, by decide⟩ = ptQ c (inc c s) fullShare WQ := rfl
theorem legSide2 (c : Dev nD) (s : Fin 15) : legPay WQ WO c s ⟨2 + (0 : Fin 2).val, by decide⟩ = ptO c (outc c s) (sh (pc s)) WO := rfl
theorem legSide3 (c : Dev nD) (s : Fin 15) : legPay WQ WO c s ⟨2 + (1 : Fin 2).val, by decide⟩ = ptO c (inc c s) fullShare WO := rfl

/-- A receipt. -/
theorem St_recv (K : GSem nD τ sig → ℕ) (c : Dev nD) (i : Fin 15) (k : P F) (Q : PUnit → sProp 𝕄) :
    iprop(env WQ WO K c ∗ St WQ WO c (nSent i.val) i.val ∗ (St WQ WO c (nSent i.val) (i.val + 1) -∗ WP c Q k))
      ⊢ WP c Q (waitK (rs i) 1 (col (inc c (rs i))) (row (inc c (rs i))) k) := by
  unfold St
  rw [hi_eq, big_insert (notMem_hi i), (heldP_recv c i).1, big_union (heldP_recv c i).2, lo_eq, big_insert (notMem_lo i), ← chunk_pieces]
  iintro ⟨#HE, ⟨Hs, Hw, ⟨Hr, Hrs⟩, Hd, Hps, ⟨%W, HO⟩⟩, Hk⟩
  iapply (wait_spec WQ WO K c (rs i) 1 (inc c (rs i)) (nSent i.val) (fun s' h => by
    have h1 := lv_recv c (rs i) 1 (.inl rfl) (); have h3 := lv_recv c (rs i) 3 (.inr rfl) ()
    have h := lv_rec i s' h
    exact ⟨lt_of_eq_of_lt h1 h, lt_of_eq_of_lt h3 h⟩) W)
  isplitr; · iexact HE
  isplitl [Hr]; · iexact Hr
  isplitl [HO]; · iexact HO
  iintro ⟨H6, H7, Hd', HO⟩
  iapply Hk
  isplitl [Hs]; · iexact Hs
  isplitl [Hw]; · iexact Hw
  isplitl [Hrs]; · iexact Hrs
  isplitl [Hd Hd']
  · isplitl [Hd']; · iexact Hd'
    iexact Hd
  isplitl [H6 H7 Hps]
  · isplitr [Hps]
    · isplitl [H6]; · iapply (Entails.of_eq (legSide1 WQ WO c (rs i))) $$ H6
      iapply (Entails.of_eq (legSide3 WQ WO c (rs i))) $$ H7
    iexact Hps
  iexact HO

/-- Reading an arrived chunk. -/
theorem St_read (c : Dev nD) (n i : ℕ) {j : Dev nD} (h : j ∈ arr c i) :
    St WQ WO c n i ⊢ iprop((ptQ c j (sh 7) WQ ∗ ptO c j (sh 7) WO) ∗ ((ptQ c j (sh 7) WQ ∗ ptO c j (sh 7) WO) -∗ St WQ WO c n i)) := by
  unfold St
  rw [big_erase (heldP_keep c n i h)]
  iintro ⟨Hs, Hw, Hr, Hd, ⟨Hp, Hps⟩, HO⟩
  isplitl [Hp]; · unfold piece; iexact Hp
  iintro Hp
  isplitl [Hs]; · iexact Hs
  isplitl [Hw]; · iexact Hw
  isplitl [Hr]; · iexact Hr
  isplitl [Hd]; · iexact Hd
  isplitl [Hp Hps]
  · isplitl [Hp]; · unfold piece; iexact Hp
    iexact Hps
  iexact HO

/-- After `m` of the final waits. -/
def En (c : Dev nD) (m : ℕ) : sProp 𝕄 :=
  iprop((bigSep (hi m) fun s => waitRes (F := F) c s 0) ∗ (bigSep (lo m) fun s => doneRes (F := F) c s 0)
    ∗ (bigSep (lo m) fun s => piece WQ WO c (outc c s, pc s)) ∗ ∃ W, owes (c : Thread nD τ) (owe c 15) W)

/-- A final wait. -/
theorem En_done (K : GSem nD τ sig → ℕ) (c : Dev nD) (s : Fin 15) (k : P F) (Q : PUnit → sProp 𝕄) :
    iprop(env WQ WO K c ∗ En WQ WO c s.val ∗ (En WQ WO c (s.val + 1) -∗ WP c Q k)) ⊢ WP c Q (doneC c s k) := by
  unfold En doneC
  rw [hi_eq, big_insert (notMem_hi s), lo_eq, big_insert (notMem_lo s), big_insert (notMem_lo s)]
  iintro ⟨#HE, ⟨⟨Hw, Hws⟩, Hd, Hps, ⟨%W, HO⟩⟩, Hk⟩
  iapply (wait_spec WQ WO K c s 0 (outc c s) 15 (fun s' h => absurd s'.isLt (by omega)) W)
  isplitr; · iexact HE
  isplitl [Hw]; · iexact Hw
  isplitl [HO]; · iexact HO
  iintro ⟨H6, H7, Hd', HO⟩
  iapply Hk
  isplitl [Hws]; · iexact Hws
  isplitl [Hd Hd']
  · isplitl [Hd']; · iexact Hd'
    iexact Hd
  isplitl [H6 H7 Hps]
  · isplitr [Hps]
    · unfold piece
      isplitl [H6]; · iapply (Entails.of_eq (legSide0 WQ WO c s)) $$ H6
      iapply (Entails.of_eq (legSide2 WQ WO c s)) $$ H7
    iexact Hps
  iexact HO

/-- At the end of the receipts the sent slots are to be waited for, and what else is held rests. -/
theorem St_end (c : Dev nD) : St WQ WO c 15 15
    ⊢ iprop(En WQ WO c 0 ∗ (bigSep Finset.univ fun s : Fin 15 => doneRes (F := F) c s 1) ∗ bigSep (heldP c 15 15) (piece WQ WO c)) := by
  unfold St En
  rw [hi_zero, lo_zero, lo_top, hi_top]
  rw [show (bigSep Finset.univ fun s : Fin 15 => doneRes (F := F) c s 1) = bigSep Finset.univ fun i : Fin 15 => doneRes (F := F) c (rs i) 1 by
    rw [← big_image (fun _ _ _ _ h => rs_inj h) fun s : Fin 15 => doneRes (F := F) c s 1, rs_univ]]
  rw [big_empty, big_empty, big_empty, big_empty]
  iintro ⟨-, Hw, -, Hd, Hp, HO⟩
  isplitl [Hw HO]
  · isplitl [Hw]; · iexact Hw
    isplitr; · iempintro
    isplitr; · iempintro
    iexact HO
  isplitl [Hd]; · iexact Hd
  iexact Hp

/-- After the final waits every chunk is whole again. -/
theorem En_end (c : Dev nD) : iprop(En WQ WO c 15 ∗ bigSep (heldP c 15 15) (piece WQ WO c))
    ⊢ iprop((bigSep Finset.univ fun s : Fin 15 => doneRes (F := F) c s 0)
      ∗ (bigSep Finset.univ fun j : Dev nD => iprop(ptQ c j fullShare WQ ∗ ptO c j fullShare WO)) ∗ ∃ W, owes (c : Thread nD τ) 0 W) := by
  have e : (bigSep Finset.univ fun j : Dev nD => iprop(ptQ c j fullShare WQ ∗ ptO c j fullShare WO) : sProp 𝕄)
      = iprop((bigSep Finset.univ fun s => piece WQ WO c (outc c s, pc s)) ∗ bigSep (heldP c 15 15) (piece WQ WO c)) := by
    have h1 : (bigSep Finset.univ fun s => piece WQ WO c (outc c s, pc s) : sProp 𝕄) = bigSep (gone c 15) (piece WQ WO c) := by
      unfold gone; rw [lo_top, big_image fun _ _ _ _ h => pc_inj c h]
    have h2 : heldP c 15 15 = Finset.univ \ gone c 15 := by unfold heldP; rw [arr_top, Finset.univ_product_univ]
    rw [h1, h2, ← big_sdiff (Finset.subset_univ _), ← Finset.univ_product_univ, big_product]
    refine bigSep_congr fun j _ => ?_
    rw [chunk_pieces, big_product, bigSep_singleton]
  rw [e]
  unfold En
  rw [lo_top, owe_top]
  iintro ⟨⟨-, Hd, Hp, HO⟩, Hr⟩
  isplitl [Hd]; · iexact Hd
  isplitl [Hp Hr]
  · isplitl [Hp]; · iexact Hp
    iexact Hr
  iexact HO

/-! ## Steps in a row -/

/-- Steps each taking the state at its number to the next take it along a run of numbers. -/
theorem steps {R : sProp 𝕄} [BI.Persistent R] (S : ℕ → sProp 𝕄) (f : Fin 15 → P F → P F) (c : Dev nD) (Q : PUnit → sProp 𝕄) (k : P F) :
    ∀ (l : List (Fin 15)) (n : ℕ), l.map (fun s => s.val) = List.range' n l.length →
      (∀ s ∈ l, ∀ k' : P F, iprop(R ∗ S s.val ∗ (S (s.val + 1) -∗ WP c Q k')) ⊢ WP c Q (f s k')) →
      iprop(R ∗ S n ∗ (S (n + l.length) -∗ WP c Q k)) ⊢ WP c Q (l.foldr f k)
  | [], n, _, _ => by
    iintro ⟨-, HS, Hk⟩
    iapply Hk; iexact HS
  | s :: l, n, hl, h => by
    rw [List.map_cons, List.length_cons, List.range'_succ] at hl
    obtain ⟨h1, h2⟩ := List.cons.inj hl
    subst h1
    have ih := steps (R := R) S f c Q k l (s.val + 1) h2 fun s' hs' => h s' (List.mem_cons_of_mem _ hs')
    rw [List.foldr_cons, List.length_cons, show s.val + (l.length + 1) = s.val + 1 + l.length by omega]
    iintro ⟨#HR, HS, Hk⟩
    iapply (h s List.mem_cons_self _)
    isplitr; · iexact HR
    isplitl [HS]; · iexact HS
    iintro HS
    iapply ih
    isplitr; · iexact HR
    isplitl [HS]; · iexact HS
    iexact Hk

end Cert.KernelIdeal.Fused

end
-- ==== Proof.Compute.lean ====
/- The kernel's arithmetic steps: one head, one batch element of a chunk, the accumulator's stores. -/
module

public import proofs.«01_k».proof.Proof.Steps
public import Idealize.ShloMosaic.Lib.Pipeline.Value

@[expose] public section

set_option maxRecDepth 8000

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F] [Named F]

local notation "𝕄" => MT nD τ sig Unit (Elt F) ℕ UU ℕ

/-! ## The buffers -/

abbrev CX (F : FTy → Type) : Type := cc0_stg0_0.ty.Contents (Elt F)
abbrev CWq (F : FTy → Type) : Type := cc0_stg1_0.ty.Contents (Elt F)
abbrev CWo (F : FTy → Type) : Type := cc0_stg2_0.ty.Contents (Elt F)
abbrev CK (F : FTy → Type) : Type := cc0_stg3_0.ty.Contents (Elt F)
abbrev CV (F : FTy → Type) : Type := cc0_stg4_0.ty.Contents (Elt F)
abbrev CO (F : FTy → Type) : Type := cc0_stg5_0.ty.Contents (Elt F)
abbrev CC (F : FTy → Type) : Type := cc0_scratch2.ty.Contents (Elt F)

def ptX (c : Dev nD) (f : CX F) : sProp 𝕄 := mX.view.loc (c : Thread nD τ) ↦{fullShare} f
def ptWq (c : Dev nD) (f : CWq F) : sProp 𝕄 := mWq.view.loc (c : Thread nD τ) ↦{fullShare} f
def ptWo (c : Dev nD) (f : CWo F) : sProp 𝕄 := mWo.view.loc (c : Thread nD τ) ↦{fullShare} f
def ptK (c : Dev nD) (f : CK F) : sProp 𝕄 := mK.view.loc (c : Thread nD τ) ↦{fullShare} f
def ptV (c : Dev nD) (f : CV F) : sProp 𝕄 := mV.view.loc (c : Thread nD τ) ↦{fullShare} f
def ptOut (c : Dev nD) (f : CO F) : sProp 𝕄 := mOut.view.loc (c : Thread nD τ) ↦{fullShare} f
def ptC (c : Dev nD) (f : CC F) : sProp 𝕄 := mC.view.loc (c : Thread nD τ) ↦{fullShare} f

/-! ## The context buffer -/

/-- The place within its head of an element of the context. -/
def idx64 (y : S256x256.Idx) : S256x64.Idx
  | ⟨0, _⟩ => (⟨(y 0).val, (y 0).isLt⟩ : Fin 256)
  | ⟨1, _⟩ => (⟨(y 1).val % 64, Nat.mod_lt _ (Nat.zero_lt_succ 63)⟩ : Fin 64)

/-- Four heads side by side. -/
def ctxOf (w : Fin 4 → FVec F S256x64 .bf16) : Vec F S256x256 .bf16 := fun y =>
  w ⟨(y 1).val / 64, Nat.div_lt_of_lt_mul (y 1).isLt⟩ (idx64 y)

/-- A head's columns written. -/
def putH (h : Fin 4) (f : CC F) (w : FVec F S256x64 .bf16) : CC F := (mC.access (rectH h)).write (Elt F) f w Finset.univ

/-- Where an element of head `h` lies. -/
def atH (h : Fin 4) (x : S256x64.Idx) : S256x256.Idx := (mC.access (rectH h)).emb x

theorem atH_val (h : Fin 4) (x : S256x64.Idx) (a : Fin 2) : (atH h x a).val = (![0, 64 * h.val] : Fin 2 → Nat) a + 1 * (x a).val := rfl

theorem putH_at (h : Fin 4) (f : CC F) (w : FVec F S256x64 .bf16) (x : S256x64.Idx) : putH h f w (atH h x) = w x :=
  View.write_emb_of_mem (v := mC.access (rectH h)) f w (Finset.mem_univ x)

theorem putH_off {h h' : Fin 4} (hn : h ≠ h') (f : CC F) (w : FVec F S256x64 .bf16) (x : S256x64.Idx) : putH h f w (atH h' x) = f (atH h' x) := by
  refine View.write_of_not_mem (v := mC.access (rectH h)) f w Finset.univ fun hm => ?_
  obtain ⟨y, -, e⟩ := Finset.mem_map.mp hm
  have e1 : (atH h y 1).val = (atH h' x 1).val := congrArg (fun i : S256x256.Idx => (i 1).val) e
  have h1 : (atH h y 1).val = 64 * h.val + 1 * (y 1).val := atH_val h y 1
  have h2 : (atH h' x 1).val = 64 * h'.val + 1 * (x 1).val := atH_val h' x 1
  have b1 : (y 1).val < 64 := (y 1).isLt
  have b2 : (x 1).val < 64 := (x 1).isLt
  exact hn (Fin.ext (by omega))

/-- The context buffer after its four stores. -/
theorem put4 (f : CC F) (w : Fin 4 → FVec F S256x64 .bf16) : putH 3 (putH 2 (putH 1 (putH 0 f (w 0)) (w 1)) (w 2)) (w 3) = ctxOf w := by
  funext y
  have hb : (y 1).val < 256 := (y 1).isLt
  obtain ⟨h, x, rfl⟩ : ∃ (h : Fin 4) (x : S256x64.Idx), y = atH h x := by
    refine ⟨⟨(y 1).val / 64, by omega⟩, idx64 y, ?_⟩
    funext a
    refine Fin.ext ?_
    rw [atH_val]
    fin_cases a
    · show (y 0).val = 0 + 1 * (y 0).val
      omega
    · show (y 1).val = 64 * ((y 1).val / 64) + 1 * ((y 1).val % 64)
      omega
  have hx : ctxOf w (atH h x) = w h x := by
    have b2 : (x 1).val < 64 := (x 1).isLt
    have h1 : (atH h x 1).val = 64 * h.val + 1 * (x 1).val := atH_val h x 1
    have h0 : (atH h x 0).val = 0 + 1 * (x 0).val := atH_val h x 0
    unfold ctxOf
    have e : (⟨(atH h x 1).val / 64, Nat.div_lt_of_lt_mul (atH h x 1).isLt⟩ : Fin 4) = h := Fin.ext (by show (atH h x 1).val / 64 = _; omega)
    rw [e]
    congr 1
    funext a
    refine Fin.ext ?_
    fin_cases a
    · show (atH h x 0).val = (x 0).val
      omega
    · show (atH h x 1).val % 64 = (x 1).val
      omega
  rw [hx]
  fin_cases h
  · show putH 3 _ _ (atH 0 x) = w 0 x
    rw [putH_off (by decide), putH_off (by decide), putH_off (by decide), putH_at]
  · show putH 3 _ _ (atH 1 x) = w 1 x
    rw [putH_off (by decide), putH_off (by decide), putH_at]
  · show putH 3 _ _ (atH 2 x) = w 2 x
    rw [putH_off (by decide), putH_at]
  · show putH 3 _ _ (atH 3 x) = w 3 x
    rw [putH_at]

/-! ## What is read -/

/-- Batch element `b`'s activations. -/
def xOf (X : CX F) (b : Fin 2) : Vec F S1x256x512 .bf16 := (mX.access (rectB b)).read (Elt F) X
/-- Chunk `j`'s query weights. -/
def wqOf (WQ : BQ F) (j : Dev nD) : Vec F S512x256 .bf16 := (mQ.access (off6 j).rect).read (Elt F) WQ
/-- Chunk `j`'s output weights. -/
def woOf (WO : BO F) (j : Dev nD) : Vec F S256x512 .bf16 := (mO.access (off7 j).rect).read (Elt F) WO
/-- The keys of head `h` of chunk `j`. -/
def kOf (kk : CK F) (b : Fin 2) (j : Dev nD) (h : Fin 4) : Vec F S1x1x256x64 .bf16 := (mK.access ((kvAt b j).rect h)).read (Elt F) kk
/-- The values of head `h` of chunk `j`. -/
def vOf (vv : CV F) (b : Fin 2) (j : Dev nD) (h : Fin 4) : Vec F S1x1x256x64 .bf16 := (mV.access ((kvAt b j).rect h)).read (Elt F) vv

variable (WQ : BQ F) (WO : BO F)

/-- The contexts of chunk `j`. -/
def ctxAt (X : CX F) (kk : CK F) (vv : CV F) (b : Fin 2) (j : Dev nD) : Vec F S256x256 .bf16 :=
  ctxOf fun h => headCtx (headQ (queries (xOf X b) (wqOf WQ j)) h) (kOf kk b j h) (vOf vv b j h)

/-- What chunk `j` adds to batch element `b` of the output. -/
def contrib (X : CX F) (kk : CK F) (vv : CV F) (b : Fin 2) (j : Dev nD) : FVec F S256x512 .f32 :=
  project (ctxAt WQ X kk vv b j) (woOf WO j)

/-! ## One head -/

theorem head_spec (c : Dev nD) (h : Fin 4) (b : Fin 2) (j : Dev nD) (q : FVec F S256x256 .bf16) (kk : CK F) (vv : CV F) (f : CC F)
    (k : P F) (Q : PUnit → sProp 𝕄) :
    iprop(ptK c kk ∗ ptV c vv ∗ ptC c f
        ∗ ((ptK c kk ∗ ptV c vv ∗ ptC c (putH h f (headCtx (headQ q h) (kOf kk b j h) (vOf vv b j h)))) -∗ WP c Q k))
      ⊢ WP c Q (headK h (kvAt b j) q k) := by
  unfold headK ptK ptV ptC putH
  iintro ⟨HK, HV, HC, Hk⟩
  iapply (wp_load_rect (defs := defs₀ (F := F)) 𝒱₀ (c : Thread nD τ) none Set.univ (m := mK) (r := (kvAt b j).rect h) (Finset.subset_univ _)) $$ HK
  iintro HK
  iapply (wp_load_rect (defs := defs₀ (F := F)) 𝒱₀ (c : Thread nD τ) none Set.univ (m := mV) (r := (kvAt b j).rect h) (Finset.subset_univ _)) $$ HV
  iintro HV
  iapply (wp_load_rect (defs := defs₀ (F := F)) 𝒱₀ (c : Thread nD τ) none Set.univ (m := mC) (r := rectH h) (Finset.subset_univ _)) $$ HC
  iintro HC
  iapply (wp_store (defs := defs₀ (F := F)) 𝒱₀ (c : Thread nD τ) none Set.univ (m := mC) (r := rectH h) (Finset.subset_univ _)) $$ HC
  iintro HC
  iapply Hk
  isplitl [HK]; · iexact HK
  isplitl [HV]; · iexact HV
  have e : (mC.access (rectH h)).write (Elt F) f (shapeCast S256x64 (headCtx (headQ q h) ((mK.access ((kvAt b j).rect h)).read (Elt F) kk)
      ((mV.access ((kvAt b j).rect h)).read (Elt F) vv)) shapeCasts_S256x64_S256x64) Finset.univ
      = (mC.access (rectH h)).write (Elt F) f (headCtx (headQ q h) (kOf kk b j h) (vOf vv b j h)) Finset.univ := by
    rw [shapeCast_self]; rfl
  rw [e]
  iexact HC

/-! ## One batch element of a chunk -/

/-- The staged activations, keys and values. -/
def ins (c : Dev nD) (X : CX F) (kk : CK F) (vv : CV F) : sProp 𝕄 := iprop(ptX c X ∗ ptK c kk ∗ ptV c vv)

theorem ptQ_access (c j : Dev nD) (q : PosShare TreeShare) (f : BQ F) : ptQ c j q f
    = ((mQ.access (off6 j).rect).loc (c : Thread nD τ) ↦[(mQ.access (off6 j).rect).set]{q} f : sProp 𝕄) := rfl
theorem ptQ_setOn (c j : Dev nD) (f : BQ F) : ptQ c j fullShare f
    = ((mQ.access (off6 j).rect).loc (c : Thread nD τ) ↦[(mQ.access (off6 j).rect).setOn Finset.univ]{fullShare} f : sProp 𝕄) := rfl
theorem ptO_setOn (c j : Dev nD) (f : BO F) : ptO c j fullShare f
    = ((mO.access (off7 j).rect).loc (c : Thread nD τ) ↦[(mO.access (off7 j).rect).setOn Finset.univ]{fullShare} f : sProp 𝕄) := rfl
theorem ptO_access (c j : Dev nD) (q : PosShare TreeShare) (f : BO F) : ptO c j q f
    = ((mO.access (off7 j).rect).loc (c : Thread nD τ) ↦[(mO.access (off7 j).rect).set]{q} f : sProp 𝕄) := rfl

/-- The context of one batch element and chunk is computed. -/
theorem ctx_spec (c : Dev nD) (b : Fin 2) (j : Dev nD) (X : CX F) (kk : CK F) (vv : CV F) (q : PosShare TreeShare)
    (k : Vec F S256x256 .bf16 → Vec F S256x512 .bf16 → P F) (Q : PUnit → sProp 𝕄) :
    iprop((ins c X kk vv ∗ ∃ f : CC F, ptC c f) ∗ (ptQ c j q WQ ∗ ptO c j q WO)
        ∗ (((ins c X kk vv ∗ ∃ f : CC F, ptC c f) ∗ (ptQ c j q WQ ∗ ptO c j q WO)) -∗ WP c Q (k (ctxAt WQ X kk vv b j) (woOf WO j))))
      ⊢ WP c Q (ctxK b (off6 j) (off7 j) (kvAt b j) k) := by
  unfold ctxK ins ptX
  rw [ptQ_access, ptO_access]
  iintro ⟨⟨⟨HX, HK, HV⟩, ⟨%f, HC⟩⟩, ⟨H6, H7⟩, Hk⟩
  iapply (wp_load_rect (defs := defs₀ (F := F)) 𝒱₀ (c : Thread nD τ) none Set.univ (m := mX) (r := rectB b) (Finset.subset_univ _)) $$ HX
  iintro HX
  iapply (wp_load_rect (defs := defs₀ (F := F)) 𝒱₀ (c : Thread nD τ) none Set.univ (m := mQ) (r := (off6 j).rect) (Finset.Subset.refl _)) $$ H6
  iintro H6
  iapply (head_spec c 0 b j (queries (xOf X b) (wqOf WQ j)))
  isplitl [HK]; · iexact HK
  isplitl [HV]; · iexact HV
  isplitl [HC]; · iexact HC
  iintro ⟨HK, HV, HC⟩
  iapply (head_spec c 1 b j (queries (xOf X b) (wqOf WQ j)))
  isplitl [HK]; · iexact HK
  isplitl [HV]; · iexact HV
  isplitl [HC]; · iexact HC
  iintro ⟨HK, HV, HC⟩
  iapply (head_spec c 2 b j (queries (xOf X b) (wqOf WQ j)))
  isplitl [HK]; · iexact HK
  isplitl [HV]; · iexact HV
  isplitl [HC]; · iexact HC
  iintro ⟨HK, HV, HC⟩
  iapply (head_spec c 3 b j (queries (xOf X b) (wqOf WQ j)))
  isplitl [HK]; · iexact HK
  isplitl [HV]; · iexact HV
  isplitl [HC]; · iexact HC
  iintro ⟨HK, HV, HC⟩
  have e4 : putH 3 (putH 2 (putH 1 (putH 0 f (headCtx (headQ (queries (xOf X b) (wqOf WQ j)) 0) (kOf kk b j 0) (vOf vv b j 0)))
      (headCtx (headQ (queries (xOf X b) (wqOf WQ j)) 1) (kOf kk b j 1) (vOf vv b j 1)))
      (headCtx (headQ (queries (xOf X b) (wqOf WQ j)) 2) (kOf kk b j 2) (vOf vv b j 2)))
      (headCtx (headQ (queries (xOf X b) (wqOf WQ j)) 3) (kOf kk b j 3) (vOf vv b j 3)) = ctxAt WQ X kk vv b j :=
    put4 f fun h => headCtx (headQ (queries (xOf X b) (wqOf WQ j)) h) (kOf kk b j h) (vOf vv b j h)
  ihave HC := (Entails.of_eq (congrArg (fun g => ptC c g) e4)) $$ HC
  unfold ptC
  iapply (wp_load_rect (defs := defs₀ (F := F)) 𝒱₀ (c : Thread nD τ) none Set.univ (m := mC)
    (r := Rect.unit (s := S256x256) ![0, 0] S256x256.size inb_S256x256_S256x256_0_0) (Finset.subset_univ _)) $$ HC
  iintro HC
  iapply (wp_load_rect (defs := defs₀ (F := F)) 𝒱₀ (c : Thread nD τ) none Set.univ (m := mO) (r := (off7 j).rect) (Finset.Subset.refl _)) $$ H7
  iintro H7
  have e0 : (mC.access (Rect.unit (s := S256x256) ![0, 0] S256x256.size inb_S256x256_S256x256_0_0)).read (Elt F) (ctxAt WQ X kk vv b j) = ctxAt WQ X kk vv b j :=
    Memref.read_access_unit_zero (Elt F) cc0_scratch2 (by funext a; fin_cases a <;> rfl) _ _
  rw [e0]
  iapply Hk
  isplitr [H6 H7]
  · isplitr [HC]
    · isplitl [HX]; · iexact HX
      isplitl [HK]; · iexact HK
      iexact HV
    · iexists ctxAt WQ X kk vv b j
      iexact HC
  · isplitl [H6]; · iexact H6
    iexact H7

/-! ## The accumulator -/

theorem ptOut_access (c : Dev nD) (b : Fin 2) (f : CO F) :
    ptOut c f = ((mOut.access (rectB b)).loc (c : Thread nD τ) ↦{fullShare} f : sProp 𝕄) := rfl

/-- The output buffer holds `a`, batch element by batch element. -/
def outIs (c : Dev nD) (a : Fin 2 → Vec F S1x256x512 .f32) : sProp 𝕄 :=
  iprop(∃ f : CO F, ⌜∀ b : Fin 2, (mOut.access (rectB b)).read (Elt F) f = a b⌝ ∗ ptOut c f)

theorem out_same (b : Fin 2) (f : CO F) (v : Vec F S1x256x512 .f32) :
    (mOut.access (rectB b)).read (Elt F) ((mOut.access (rectB b)).write (Elt F) f v Finset.univ) = v :=
  View.read_write_univ _ _

/-- Where an element of batch element `b` lies. -/
def atB (b : Fin 2) (x : S1x256x512.Idx) : S2x256x512.Idx := (mOut.access (rectB b)).emb x

theorem atB_val (b : Fin 2) (x : S1x256x512.Idx) : (atB b x 0).val = b.val + 1 * (x 0).val := rfl

theorem out_off {b b' : Fin 2} (hn : b ≠ b') (f : CO F) (v : Vec F S1x256x512 .f32) (x : S1x256x512.Idx) :
    (mOut.access (rectB b)).write (Elt F) f v Finset.univ (atB b' x) = f (atB b' x) := by
  refine View.write_of_not_mem (v := mOut.access (rectB b)) f v Finset.univ fun hm => ?_
  obtain ⟨y, -, e⟩ := Finset.mem_map.mp hm
  have e1 : (atB b y 0).val = (atB b' x 0).val := congrArg (fun i : S2x256x512.Idx => (i 0).val) e
  have h1 := atB_val b y
  have h2 := atB_val b' x
  have b1 : (y 0).val < 1 := (y 0).isLt
  have b2 : (x 0).val < 1 := (x 0).isLt
  exact hn (Fin.ext (by omega))

theorem out_other {b b' : Fin 2} (hn : b ≠ b') (f : CO F) (v : Vec F S1x256x512 .f32) :
    (mOut.access (rectB b')).read (Elt F) ((mOut.access (rectB b)).write (Elt F) f v Finset.univ) = (mOut.access (rectB b')).read (Elt F) f :=
  funext fun x => (View.read_apply _ x).trans ((congrArg (_root_.cast (congrArg (Elt F) (mOut.access (rectB b')).elt_eq)) (out_off hn f v x)).trans (View.read_apply _ x).symm)

/-- A batch element's accumulator is stored. -/
theorem put_spec (c : Dev nD) (b : Fin 2) (a : Fin 2 → Vec F S1x256x512 .f32) (v : Vec F S1x256x512 .f32) (k : P F) (Q : PUnit → sProp 𝕄) :
    iprop(outIs c a ∗ (outIs c (Function.update a b v) -∗ WP c Q k)) ⊢ WP c Q (putK b v k) := by
  unfold putK outIs
  iintro ⟨⟨%f, %hf, HO⟩, Hk⟩
  ihave HO := (Entails.of_eq (ptOut_access c b f)) $$ HO
  iapply (wp_load_rect (defs := defs₀ (F := F)) 𝒱₀ (c : Thread nD τ) none Set.univ (m := mOut) (r := rectB b) (Finset.subset_univ _)) $$ HO
  iintro HO
  iapply (wp_store (defs := defs₀ (F := F)) 𝒱₀ (c : Thread nD τ) none Set.univ (m := mOut) (r := rectB b) (Finset.subset_univ _)) $$ HO
  iintro HO
  iapply Hk
  iexists (mOut.access (rectB b)).write (Elt F) f v Finset.univ
  isplitr
  · ipureintro
    intro b'
    by_cases h : b' = b
    · subst h; rw [Function.update_self]; exact out_same _ f v
    · rw [Function.update_of_ne h]; exact (out_other (Ne.symm h) f v).trans (hf b')
  · iapply (Entails.of_eq (ptOut_access c b _).symm) $$ HO

/-- The computing state: the staged inputs, the context buffer, the accumulators. -/
def Cmp (c : Dev nD) (X : CX F) (kk : CK F) (vv : CV F) (a : Fin 2 → Vec F S1x256x512 .f32) : sProp 𝕄 :=
  iprop((ins c X kk vv ∗ ∃ f : CC F, ptC c f) ∗ outIs c a)

theorem first_spec (c : Dev nD) (b : Fin 2) (j : Dev nD) (X : CX F) (kk : CK F) (vv : CV F) (a : Fin 2 → Vec F S1x256x512 .f32)
    (q : PosShare TreeShare) (k : P F) (Q : PUnit → sProp 𝕄) :
    iprop(Cmp c X kk vv a ∗ (ptQ c j q WQ ∗ ptO c j q WO)
        ∗ ((Cmp c X kk vv (Function.update a b (accFirst (contrib WQ WO X kk vv b j))) ∗ (ptQ c j q WQ ∗ ptO c j q WO)) -∗ WP c Q k))
      ⊢ WP c Q (firstK b (off6 j) (off7 j) (kvAt b j) k) := by
  unfold firstK Cmp
  iintro ⟨⟨HI, HO⟩, HW, Hk⟩
  iapply (ctx_spec WQ WO c b j X kk vv q)
  isplitl [HI]; · iexact HI
  isplitl [HW]; · iexact HW
  iintro ⟨HI, HW⟩
  iapply (put_spec c b a (accFirst (contrib WQ WO X kk vv b j)))
  isplitl [HO]; · iexact HO
  iintro HO
  iapply Hk
  isplitr [HW]
  · isplitl [HI]; · iexact HI
    iexact HO
  · iexact HW

theorem next_spec (c : Dev nD) (b : Fin 2) (j : Dev nD) (X : CX F) (kk : CK F) (vv : CV F) (a : Fin 2 → Vec F S1x256x512 .f32)
    (q : PosShare TreeShare) (k : P F) (Q : PUnit → sProp 𝕄) :
    iprop(Cmp c X kk vv a ∗ (ptQ c j q WQ ∗ ptO c j q WO)
        ∗ ((Cmp c X kk vv (Function.update a b (accNext (a b) (contrib WQ WO X kk vv b j))) ∗ (ptQ c j q WQ ∗ ptO c j q WO)) -∗ WP c Q k))
      ⊢ WP c Q (nextK b (off6 j) (off7 j) (kvAt b j) k) := by
  unfold nextK Cmp
  iintro ⟨⟨HI, HO⟩, HW, Hk⟩
  iapply (ctx_spec WQ WO c b j X kk vv q)
  isplitl [HI]; · iexact HI
  isplitl [HW]; · iexact HW
  iintro ⟨HI, HW⟩
  unfold outIs
  icases HO with ⟨%f, %hf, HO⟩
  ihave HO := (Entails.of_eq (ptOut_access c b f)) $$ HO
  iapply (wp_load_rect (defs := defs₀ (F := F)) 𝒱₀ (c : Thread nD τ) none Set.univ (m := mOut) (r := rectB b) (Finset.subset_univ _)) $$ HO
  iintro HO
  ihave HO := (Entails.of_eq (ptOut_access c b f).symm) $$ HO
  rw [hf b]
  iapply (put_spec c b a (accNext (a b) (contrib WQ WO X kk vv b j)))
  isplitl [HO]
  · unfold outIs
    iexists f
    isplitr; · ipureintro; exact hf
    iexact HO
  iintro HO
  iapply Hk
  isplitr [HW]
  · isplitl [HI]; · iexact HI
    unfold outIs ptOut
    iexact HO
  · iexact HW

theorem update2 {α : Type} (a v : Fin 2 → α) : Function.update (Function.update a 0 (v 0)) 1 (v 1) = v := by
  funext b; fin_cases b <;> rfl

/-- The own chunk is processed. -/
theorem own_spec (c : Dev nD) (X : CX F) (kk : CK F) (vv : CV F) (a : Fin 2 → Vec F S1x256x512 .f32)
    (q : PosShare TreeShare) (k : P F) (Q : PUnit → sProp 𝕄) :
    iprop(Cmp c X kk vv a ∗ (ptQ c c q WQ ∗ ptO c c q WO)
        ∗ ((Cmp c X kk vv (fun b => accFirst (contrib WQ WO X kk vv b c)) ∗ (ptQ c c q WQ ∗ ptO c c q WO)) -∗ WP c Q k))
      ⊢ WP c Q (ownC c k) := by
  unfold ownC
  iintro ⟨HC, HW, Hk⟩
  iapply (first_spec WQ WO c 0 c X kk vv a q)
  isplitl [HC]; · iexact HC
  isplitl [HW]; · iexact HW
  iintro ⟨HC, HW⟩
  iapply (first_spec WQ WO c 1 c X kk vv _ q)
  isplitl [HC]; · iexact HC
  isplitl [HW]; · iexact HW
  iintro ⟨HC, HW⟩
  rw [update2 a fun b => accFirst (contrib WQ WO X kk vv b c)]
  iapply Hk
  isplitl [HC]; · iexact HC
  iexact HW

/-- A later chunk is processed. -/
theorem chunk_spec (c j : Dev nD) (X : CX F) (kk : CK F) (vv : CV F) (a : Fin 2 → Vec F S1x256x512 .f32)
    (q : PosShare TreeShare) (k : P F) (Q : PUnit → sProp 𝕄) :
    iprop(Cmp c X kk vv a ∗ (ptQ c j q WQ ∗ ptO c j q WO)
        ∗ ((Cmp c X kk vv (fun b => accNext (a b) (contrib WQ WO X kk vv b j)) ∗ (ptQ c j q WQ ∗ ptO c j q WO)) -∗ WP c Q k))
      ⊢ WP c Q (chunkC j k) := by
  unfold chunkC chunkK
  iintro ⟨HC, HW, Hk⟩
  iapply (next_spec WQ WO c 0 j X kk vv a q)
  isplitl [HC]; · iexact HC
  isplitl [HW]; · iexact HW
  iintro ⟨HC, HW⟩
  iapply (next_spec WQ WO c 1 j X kk vv _ q)
  isplitl [HC]; · iexact HC
  isplitl [HW]; · iexact HW
  iintro ⟨HC, HW⟩
  have e : Function.update (Function.update a 0 (accNext (a 0) (contrib WQ WO X kk vv 0 j))) 1
      (accNext (Function.update a 0 (accNext (a 0) (contrib WQ WO X kk vv 0 j)) 1) (contrib WQ WO X kk vv 1 j))
      = fun b => accNext (a b) (contrib WQ WO X kk vv b j) := update2 a fun b => accNext (a b) (contrib WQ WO X kk vv b j)
  rw [e]
  iapply Hk
  isplitl [HC]; · iexact HC
  iexact HW

/-! ## The own weights' store -/

/-- The device's own weights are copied into place. -/
theorem copy_spec (c : Dev nD) (wq : CWq F) (wo : CWo F)
    (hq : (mQ.access (off6 c).rect).read (Elt F) WQ = wq) (ho : (mO.access (off7 c).rect).read (Elt F) WO = wo)
    (k : P F) (Q : PUnit → sProp 𝕄) :
    iprop((ptWq c wq ∗ ptWo c wo) ∗ anyW c c ∗ (((ptWq c wq ∗ ptWo c wo) ∗ (ptQ c c fullShare WQ ∗ ptO c c fullShare WO)) -∗ WP c Q k))
      ⊢ WP c Q (ownK (off6 c) (packed6 c) (off7 c) (packed7 c) k) := by
  unfold ownK anyW ptWq ptWo
  iintro ⟨⟨Hq, Ho⟩, ⟨⟨%f6, H6⟩, ⟨%f7, H7⟩⟩, Hk⟩
  ihave H6 := (Entails.of_eq (ptQ_access c c fullShare f6)) $$ H6
  ihave H7 := (Entails.of_eq (ptO_access c c fullShare f7)) $$ H7
  iapply (wp_load_rect (defs := defs₀ (F := F)) 𝒱₀ (c : Thread nD τ) none Set.univ (m := mWq)
    (r := Rect.unit (s := S512x256) ![0, 0] S512x256.size inb_S512x256_S512x256_0_0) (Finset.subset_univ _)) $$ Hq
  iintro Hq
  iapply (wp_load_rect (defs := defs₀ (F := F)) 𝒱₀ (c : Thread nD τ) none Set.univ (m := mQ) (r := (off6 c).rect) (Finset.Subset.refl _)) $$ H6
  iintro H6
  ihave H6 := (Entails.of_eq ((ptQ_access c c fullShare f6).symm.trans (ptQ_setOn c c f6))) $$ H6
  iapply (wp_store (defs := defs₀ (F := F)) 𝒱₀ (c : Thread nD τ) none Set.univ (m := mQ) (r := (off6 c).rect) (Finset.Subset.refl _)) $$ H6
  iintro H6
  iapply (wp_load_rect (defs := defs₀ (F := F)) 𝒱₀ (c : Thread nD τ) none Set.univ (m := mWo)
    (r := Rect.unit (s := S256x512) ![0, 0] S256x512.size inb_S256x512_S256x512_0_0) (Finset.subset_univ _)) $$ Ho
  iintro Ho
  iapply (wp_load_rect (defs := defs₀ (F := F)) 𝒱₀ (c : Thread nD τ) none Set.univ (m := mO) (r := (off7 c).rect) (Finset.Subset.refl _)) $$ H7
  iintro H7
  ihave H7 := (Entails.of_eq ((ptO_access c c fullShare f7).symm.trans (ptO_setOn c c f7))) $$ H7
  iapply (wp_store (defs := defs₀ (F := F)) 𝒱₀ (c : Thread nD τ) none Set.univ (m := mO) (r := (off7 c).rect) (Finset.Subset.refl _)) $$ H7
  iintro H7
  iapply Hk
  have eq : (mWq.access (Rect.unit (s := S512x256) ![0, 0] S512x256.size inb_S512x256_S512x256_0_0)).read (Elt F) wq = wq :=
    Memref.read_access_unit_zero (Elt F) cc0_stg1_0 (by funext a; fin_cases a <;> rfl) _ _
  have eo : (mWo.access (Rect.unit (s := S256x512) ![0, 0] S256x512.size inb_S256x512_S256x512_0_0)).read (Elt F) wo = wo :=
    Memref.read_access_unit_zero (Elt F) cc0_stg2_0 (by funext a; fin_cases a <;> rfl) _ _
  isplitl [Hq Ho]
  · isplitl [Hq]; · iexact Hq
    iexact Ho
  isplitl [H6]
  · rw [ptQ_setOn]
    iapply (Entails.of_eq (pointsTo_congr (fun i hi => ?_))) $$ H6
    obtain ⟨x, -, rfl⟩ := Finset.mem_map.mp hi
    rw [View.write_emb_of_mem (v := mQ.access (off6 c).rect) f6 _ (Finset.mem_univ x), eq, shapeCast_self, shapeCast_self]
    exact (congrFun hq x).symm
  · rw [ptO_setOn]
    iapply (Entails.of_eq (pointsTo_congr (fun i hi => ?_))) $$ H7
    obtain ⟨x, -, rfl⟩ := Finset.mem_map.mp hi
    rw [View.write_emb_of_mem (v := mO.access (off7 c).rect) f7 _ (Finset.mem_univ x), eo, shapeCast_self, shapeCast_self]
    exact (congrFun ho x).symm

end Cert.KernelIdeal.Fused

end
-- ==== Proof.Gather.lean ====
/- The gathered weights: whose chunk lies where, and a whole buffer as its sixteen chunks. -/
module

public import proofs.«01_k».proof.Proof.State
public import proofs.«01_k».proof.Proof.Compute

@[expose] public section

set_option maxRecDepth 8000

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

/-- The place within its chunk of an element of the gathered query weights. -/
def idxQ (y : S512x4096.Idx) : S512x256.Idx
  | ⟨0, _⟩ => (⟨(y 0).val, (y 0).isLt⟩ : Fin 512)
  | ⟨1, _⟩ => (⟨(y 1).val % 256, Nat.mod_lt _ (Nat.zero_lt_succ 255)⟩ : Fin 256)
/-- The place within its chunk of an element of the gathered output weights. -/
def idxO (y : S4096x512.Idx) : S256x512.Idx
  | ⟨0, _⟩ => (⟨(y 0).val % 256, Nat.mod_lt _ (Nat.zero_lt_succ 255)⟩ : Fin 256)
  | ⟨1, _⟩ => (⟨(y 1).val, (y 1).isLt⟩ : Fin 512)

/-- Whose chunk an element lies in. -/
def devQ (y : S512x4096.Idx) : Dev nD := ⟨(y 1).val / 256, Nat.div_lt_of_lt_mul (y 1).isLt⟩
def devO (y : S4096x512.Idx) : Dev nD := ⟨(y 0).val / 256, Nat.div_lt_of_lt_mul (y 0).isLt⟩

/-- The gathered query weights: every device's columns side by side. -/
def gatherQ (wq : Dev nD → CWq F) : BQ F := fun y => wq (devQ y) (idxQ y)
/-- The gathered output weights: every device's rows one below another. -/
def gatherO (wo : Dev nD → CWo F) : BO F := fun y => wo (devO y) (idxO y)

/-- Where an element of chunk `j` lies. -/
def atQ (j : Dev nD) (x : S512x256.Idx) : S512x4096.Idx := (mQ.access (off6 j).rect).emb x
def atO (j : Dev nD) (x : S256x512.Idx) : S4096x512.Idx := (mO.access (off7 j).rect).emb x
theorem atQ_val (j : Dev nD) (x : S512x256.Idx) (a : Fin 2) : (atQ j x a).val = (![0, 256 * j.val] : Fin 2 → Nat) a + 1 * (x a).val := rfl
theorem atO_val (j : Dev nD) (x : S256x512.Idx) (a : Fin 2) : (atO j x a).val = (![256 * j.val, 0] : Fin 2 → Nat) a + 1 * (x a).val := rfl

theorem devQ_at (j : Dev nD) (x : S512x256.Idx) : devQ (atQ j x) = j := by
  have b : (x 1).val < 256 := (x 1).isLt
  have h : (atQ j x 1).val = 256 * j.val + 1 * (x 1).val := atQ_val j x 1
  refine Fin.ext ?_
  show (atQ j x 1).val / 256 = j.val
  omega
theorem idxQ_at (j : Dev nD) (x : S512x256.Idx) : idxQ (atQ j x) = x := by
  have b : (x 1).val < 256 := (x 1).isLt
  have h : (atQ j x 1).val = 256 * j.val + 1 * (x 1).val := atQ_val j x 1
  have h0 : (atQ j x 0).val = 0 + 1 * (x 0).val := atQ_val j x 0
  funext a
  refine Fin.ext ?_
  fin_cases a
  · show (atQ j x 0).val = (x 0).val
    omega
  · show (atQ j x 1).val % 256 = (x 1).val
    omega
theorem devO_at (j : Dev nD) (x : S256x512.Idx) : devO (atO j x) = j := by
  have b : (x 0).val < 256 := (x 0).isLt
  have h : (atO j x 0).val = 256 * j.val + 1 * (x 0).val := atO_val j x 0
  refine Fin.ext ?_
  show (atO j x 0).val / 256 = j.val
  omega
theorem idxO_at (j : Dev nD) (x : S256x512.Idx) : idxO (atO j x) = x := by
  have b : (x 0).val < 256 := (x 0).isLt
  have h : (atO j x 0).val = 256 * j.val + 1 * (x 0).val := atO_val j x 0
  have h0 : (atO j x 1).val = 0 + 1 * (x 1).val := atO_val j x 1
  funext a
  refine Fin.ext ?_
  fin_cases a
  · show (atO j x 0).val % 256 = (x 0).val
    omega
  · show (atO j x 1).val = (x 1).val
    omega
theorem atQ_idx (y : S512x4096.Idx) : atQ (devQ y) (idxQ y) = y := by
  funext a
  refine Fin.ext ?_
  rw [atQ_val]
  fin_cases a
  · show 0 + 1 * (y 0).val = (y 0).val
    omega
  · show 256 * ((y 1).val / 256) + 1 * ((y 1).val % 256) = (y 1).val
    omega
theorem atO_idx (y : S4096x512.Idx) : atO (devO y) (idxO y) = y := by
  funext a
  refine Fin.ext ?_
  rw [atO_val]
  fin_cases a
  · show 256 * ((y 0).val / 256) + 1 * ((y 0).val % 256) = (y 0).val
    omega
  · show 0 + 1 * (y 1).val = (y 1).val
    omega

/-- Chunk `j` of the gathered query weights is device `j`'s columns. -/
theorem read_gatherQ (wq : Dev nD → CWq F) (j : Dev nD) : (mQ.access (off6 j).rect).read (Elt F) (gatherQ wq) = wq j := by
  funext x
  show wq (devQ (atQ j x)) (idxQ (atQ j x)) = wq j x
  rw [devQ_at, idxQ_at]
/-- Chunk `j` of the gathered output weights is device `j`'s rows. -/
theorem read_gatherO (wo : Dev nD → CWo F) (j : Dev nD) : (mO.access (off7 j).rect).read (Elt F) (gatherO wo) = wo j := by
  funext x
  show wo (devO (atO j x)) (idxO (atO j x)) = wo j x
  rw [devO_at, idxO_at]

/-! ## A whole buffer by chunks -/

/-- The elements of a chunk. -/
def setQ (j : Dev nD) : Finset S512x4096.Idx := (mQ.access (off6 j).rect).set
def setO (j : Dev nD) : Finset S4096x512.Idx := (mO.access (off7 j).rect).set

theorem mem_setQ {j : Dev nD} {y : S512x4096.Idx} : y ∈ setQ j ↔ devQ y = j := by
  constructor
  · intro h
    obtain ⟨x, -, e⟩ := Finset.mem_map.mp h
    have e' : atQ j x = y := e
    rw [← e', devQ_at]
  · rintro rfl
    exact Finset.mem_map.mpr ⟨idxQ y, Finset.mem_univ _, atQ_idx y⟩
theorem mem_setO {j : Dev nD} {y : S4096x512.Idx} : y ∈ setO j ↔ devO y = j := by
  constructor
  · intro h
    obtain ⟨x, -, e⟩ := Finset.mem_map.mp h
    have e' : atO j x = y := e
    rw [← e', devO_at]
  · rintro rfl
    exact Finset.mem_map.mpr ⟨idxO y, Finset.mem_univ _, atO_idx y⟩

def ptQs (c : Dev nD) (f : BQ F) : sProp 𝕄 := mQ.view.loc (c : Thread nD τ) ↦{fullShare} f
def ptOs (c : Dev nD) (f : BO F) : sProp 𝕄 := mO.view.loc (c : Thread nD τ) ↦{fullShare} f

/-- The gathered query weights are their chunks. -/
theorem ptQs_chunks (c : Dev nD) (f : BQ F) : ptQs c f = bigSep Finset.univ fun j => ptQ c j fullShare f := by
  have e : (Finset.univ : Finset S512x4096.Idx) = Finset.univ.biUnion setQ := by
    ext y
    simp only [Finset.mem_univ, Finset.mem_biUnion, true_and, true_iff]
    exact ⟨devQ y, mem_setQ.mpr rfl⟩
  have h := pointsTo_biUnion (Ix := Unit) (Val := Elt F) (Lvl := ℕ) (U := UU) (Name := ℕ) (ℓ := mQ.view.loc (c : Thread nD τ)) (q := fullShare) (f := f) (Finset.univ : Finset (Dev nD)) setQ
    fun j _ j' _ hn => Finset.disjoint_left.mpr fun y h1 h2 => hn ((mem_setQ.mp h1).symm.trans (mem_setQ.mp h2))
  rw [← e] at h
  exact h
/-- The gathered output weights are their chunks. -/
theorem ptOs_chunks (c : Dev nD) (f : BO F) : ptOs c f = bigSep Finset.univ fun j => ptO c j fullShare f := by
  have e : (Finset.univ : Finset S4096x512.Idx) = Finset.univ.biUnion setO := by
    ext y
    simp only [Finset.mem_univ, Finset.mem_biUnion, true_and, true_iff]
    exact ⟨devO y, mem_setO.mpr rfl⟩
  have h := pointsTo_biUnion (Ix := Unit) (Val := Elt F) (Lvl := ℕ) (U := UU) (Name := ℕ) (ℓ := mO.view.loc (c : Thread nD τ)) (q := fullShare) (f := f) (Finset.univ : Finset (Dev nD)) setO
    fun j _ j' _ hn => Finset.disjoint_left.mpr fun y h1 h2 => hn ((mem_setO.mp h1).symm.trans (mem_setO.mp h2))
  rw [← e] at h
  exact h

theorem inc_inj (c : Dev nD) {s s' : Fin 15} (h : inc c s = inc c s') : s = s' := by revert c s s'; decide +kernel
theorem inc_ne (c : Dev nD) (s : Fin 15) : inc c s ≠ c := by revert c s; decide +kernel
theorem inc_all (c : Dev nD) : (Finset.univ : Finset (Dev nD)) = insert c (Finset.univ.image (inc c)) := by revert c; decide +kernel

/-- Over the devices is over the own and those received from. -/
theorem big_devs (c : Dev nD) (Φ : Dev nD → sProp 𝕄) : bigSep Finset.univ Φ = iprop(Φ c ∗ bigSep Finset.univ fun s => Φ (inc c s)) := by
  rw [inc_all c, big_insert, big_image fun _ _ _ _ h => inc_inj c h]
  intro h
  obtain ⟨s, -, e⟩ := Finset.mem_image.mp h
  exact inc_ne c s e

/-- Both gathered buffers are the places of all chunks. -/
theorem places (c : Dev nD) : iprop((∃ f : BQ F, ptQs c f) ∗ ∃ f : BO F, ptOs c f)
    ⊢ iprop(anyW (F := F) c c ∗ bigSep Finset.univ fun s => anyW (F := F) c (inc c s)) := by
  rw [← big_devs c (anyW (F := F) c)]
  unfold anyW
  rw [big_sep]
  have h6 : ∀ f : BQ F, ptQs c f ⊢ (bigSep Finset.univ fun j => iprop(∃ f : BQ F, ptQ c j fullShare f) : sProp 𝕄) := fun f => by
    rw [ptQs_chunks]; refine big_mono fun j _ => ?_; iintro H; iexists f; iexact H
  have h7 : ∀ f : BO F, ptOs c f ⊢ (bigSep Finset.univ fun j => iprop(∃ f : BO F, ptO c j fullShare f) : sProp 𝕄) := fun f => by
    rw [ptOs_chunks]; refine big_mono fun j _ => ?_; iintro H; iexists f; iexact H
  iintro ⟨⟨%f, H6⟩, ⟨%g, H7⟩⟩
  isplitl [H6]; · iapply (h6 f); iexact H6
  iapply (h7 g); iexact H7

/-- All chunks are both gathered buffers. -/
theorem gathered (c : Dev nD) (WQ : BQ F) (WO : BO F) : (bigSep Finset.univ fun j : Dev nD => iprop(ptQ c j fullShare WQ ∗ ptO c j fullShare WO) : sProp 𝕄)
    = iprop(ptQs c WQ ∗ ptOs c WO) := by
  rw [big_sep, ptQs_chunks, ptOs_chunks]

end Cert.KernelIdeal.Fused

end
-- ==== Proof.Body.lean ====
/- The emitted kernel body is the program by chunk. -/
module

public import proofs.«01_k».proof.Proof.Mesh

@[expose] public section

noncomputable section

namespace Cert.KernelIdeal.Fused

open Idealize.ShloMosaic Idealize.ShloMosaic.TcCoe
open Idealize.SL Idealize.SL.Sem
open Cert.KernelIdeal Cert.KernelIdeal.Gen

variable {F : FTy → Type} [FloatOps F] [Named F]

/-- Round `r`'s slots: from the mate, the two neighbours, the diagonal. -/
def zs : Fin 3 → Fin 15 := ![2, 1, 0]
def xs : Fin 3 → Fin 15 := ![6, 9, 12]
def ys : Fin 3 → Fin 15 := ![7, 10, 13]
def es : Fin 3 → Fin 15 := ![8, 11, 14]

/-! ## The windows -/

theorem own6_eq (d : Dev nD) : own6 d = off6 d := Off6.eq_off (by revert d; decide +kernel)
theorem own7_eq (d : Dev nD) : own7 d = off7 d := Off7.eq_off (by revert d; decide +kernel)
theorem w3_eq (d : Dev nD) : w3 d = col d := Win6.eq_col (by revert d; decide +kernel)
theorem w4_eq (d : Dev nD) : w4 d = row d := Win7.eq_row (by revert d; decide +kernel)
theorem kv5_eq (d : Dev nD) : kv5 d = kvAt 0 d := OffKV.eq_at (by revert d; decide +kernel)
theorem kv6_eq (d : Dev nD) : kv6 d = kvAt 1 d := OffKV.eq_at (by revert d; decide +kernel)

theorem w7_eq (d : Dev nD) : w7 d = col (inc d 3) := Win6.eq_col (by revert d; decide +kernel)
theorem w8_eq (d : Dev nD) : w8 d = row (inc d 3) := Win7.eq_row (by revert d; decide +kernel)
theorem l9_eq (d : Dev nD) : l9 d = off6 (inc d 3) := Off6.eq_off (by revert d; decide +kernel)
theorem kv10_eq (d : Dev nD) : kv10 d = kvAt 0 (inc d 3) := OffKV.eq_at (by revert d; decide +kernel)
theorem l11_eq (d : Dev nD) : l11 d = off7 (inc d 3) := Off7.eq_off (by revert d; decide +kernel)
theorem kv12_eq (d : Dev nD) : kv12 d = kvAt 1 (inc d 3) := OffKV.eq_at (by revert d; decide +kernel)

theorem w13_eq (d : Dev nD) : w13 d = col (inc d 4) := Win6.eq_col (by revert d; decide +kernel)
theorem w14_eq (d : Dev nD) : w14 d = row (inc d 4) := Win7.eq_row (by revert d; decide +kernel)
theorem l15_eq (d : Dev nD) : l15 d = off6 (inc d 4) := Off6.eq_off (by revert d; decide +kernel)
theorem kv16_eq (d : Dev nD) : kv16 d = kvAt 0 (inc d 4) := OffKV.eq_at (by revert d; decide +kernel)
theorem l17_eq (d : Dev nD) : l17 d = off7 (inc d 4) := Off7.eq_off (by revert d; decide +kernel)
theorem kv18_eq (d : Dev nD) : kv18 d = kvAt 1 (inc d 4) := OffKV.eq_at (by revert d; decide +kernel)

theorem w19_eq (d : Dev nD) : w19 d = col (inc d 5) := Win6.eq_col (by revert d; decide +kernel)
theorem w20_eq (d : Dev nD) : w20 d = row (inc d 5) := Win7.eq_row (by revert d; decide +kernel)
theorem l21_eq (d : Dev nD) : l21 d = off6 (inc d 5) := Off6.eq_off (by revert d; decide +kernel)
theorem kv22_eq (d : Dev nD) : kv22 d = kvAt 0 (inc d 5) := OffKV.eq_at (by revert d; decide +kernel)
theorem l23_eq (d : Dev nD) : l23 d = off7 (inc d 5) := Off7.eq_off (by revert d; decide +kernel)
theorem kv24_eq (d : Dev nD) : kv24 d = kvAt 1 (inc d 5) := OffKV.eq_at (by revert d; decide +kernel)

section
variable (d : Dev nD) (r : Fin 3)

theorem w25_eq : w25 d r = col (inc d (zs r)) := Win6.eq_col (by revert d r; decide +kernel)
theorem w26_eq : w26 d r = row (inc d (zs r)) := Win7.eq_row (by revert d r; decide +kernel)
theorem l27_eq : l27 d r = off6 (inc d (zs r)) := Off6.eq_off (by revert d r; decide +kernel)
theorem kv28_eq : kv28 d r = kvAt 0 (inc d (zs r)) := OffKV.eq_at (by revert d r; decide +kernel)
theorem l29_eq : l29 d r = off7 (inc d (zs r)) := Off7.eq_off (by revert d r; decide +kernel)
theorem kv30_eq : kv30 d r = kvAt 1 (inc d (zs r)) := OffKV.eq_at (by revert d r; decide +kernel)

theorem w31_eq : w31 d r = col (inc d (xs r)) := Win6.eq_col (by revert d r; decide +kernel)
theorem w32_eq : w32 d r = row (inc d (xs r)) := Win7.eq_row (by revert d r; decide +kernel)
theorem l33_eq : l33 d r = off6 (inc d (xs r)) := Off6.eq_off (by revert d r; decide +kernel)
theorem kv34_eq : kv34 d r = kvAt 0 (inc d (xs r)) := OffKV.eq_at (by revert d r; decide +kernel)
theorem l35_eq : l35 d r = off7 (inc d (xs r)) := Off7.eq_off (by revert d r; decide +kernel)
theorem kv36_eq : kv36 d r = kvAt 1 (inc d (xs r)) := OffKV.eq_at (by revert d r; decide +kernel)

theorem w37_eq : w37 d r = col (inc d (ys r)) := Win6.eq_col (by revert d r; decide +kernel)
theorem w38_eq : w38 d r = row (inc d (ys r)) := Win7.eq_row (by revert d r; decide +kernel)
theorem l39_eq : l39 d r = off6 (inc d (ys r)) := Off6.eq_off (by revert d r; decide +kernel)
theorem kv40_eq : kv40 d r = kvAt 0 (inc d (ys r)) := OffKV.eq_at (by revert d r; decide +kernel)
theorem l41_eq : l41 d r = off7 (inc d (ys r)) := Off7.eq_off (by revert d r; decide +kernel)
theorem kv42_eq : kv42 d r = kvAt 1 (inc d (ys r)) := OffKV.eq_at (by revert d r; decide +kernel)

theorem w43_eq : w43 d r = col (inc d (es r)) := Win6.eq_col (by revert d r; decide +kernel)
theorem w44_eq : w44 d r = row (inc d (es r)) := Win7.eq_row (by revert d r; decide +kernel)
theorem l45_eq : l45 d r = off6 (inc d (es r)) := Off6.eq_off (by revert d r; decide +kernel)
theorem kv46_eq : kv46 d r = kvAt 0 (inc d (es r)) := OffKV.eq_at (by revert d r; decide +kernel)
theorem l47_eq : l47 d r = off7 (inc d (es r)) := Off7.eq_off (by revert d r; decide +kernel)
theorem kv48_eq : kv48 d r = kvAt 1 (inc d (es r)) := OffKV.eq_at (by revert d r; decide +kernel)
end

/-! ## The devices and chunks sent -/

/-- The devices the sends name, slot by slot and leg by leg. -/
def rawDev (d : Dev nD) : Fin 15 → Nat × Nat :=
  ![(k0_dev6 d, k0_dev7 d), (k0_dev8 d, k0_dev9 d), (k0_dev10 d, k0_dev11 d), (k0_dev12 d, k0_dev13 d), (k0_dev14 d, k0_dev15 d),
    (k0_dev16 d, k0_dev17 d), (k0_dev18 d, k0_dev19 d), (k0_dev20 d, k0_dev21 d), (k0_dev22 d, k0_dev23 d), (k0_dev24 d, k0_dev25 d),
    (k0_dev26 d, k0_dev27 d), (k0_dev28 d, k0_dev29 d), (k0_dev30 d, k0_dev31 d), (k0_dev32 d, k0_dev33 d), (k0_dev34 d, k0_dev35 d)]

theorem rawDev_eq (d : Dev nD) (s : Fin 15) : rawDev d s = ((tgt d s).val, (tgt d s).val) := by revert d s; decide +kernel

theorem peers_eq (d : Dev nD) :
    (![⟨k0_dev1 d, k0_dev1_lt d⟩, ⟨k0_dev2 d, k0_dev2_lt d⟩, ⟨k0_dev3 d, k0_dev3_lt d⟩, ⟨k0_dev4 d, k0_dev4_lt d⟩, ⟨k0_dev5 d, k0_dev5_lt d⟩] :
      Fin 5 → Dev nD) = peer d := by revert d; decide +kernel

/-- The slot whose chunk, once received, slot `s` passes on. -/
def feed : Fin 15 → Fin 15 := ![0, 0, 0, 0, 0, 4, 2, 2, 6, 1, 1, 10, 0, 0, 12]

theorem outc_own (d : Dev nD) (s : Fin 15) (h : s.val < 5) : outc d s = d := by revert d s; decide +kernel
theorem outc_feed (d : Dev nD) (s f : Fin 15) (h : 5 ≤ s.val ∧ f = feed s) : outc d s = inc d f := by revert d s f; decide +kernel

/-- A send of the body is a send by chunk, where its devices and window are the slot's. -/
theorem sendK_eq {d : Dev nD} (s : Fin 15) {j : Dev nD} {e e' : Nat} {he : e < nD} {he' : e' < nD} (hd : rawDev d s = (e, e'))
    (hj : outc d s = j) (k : P F) : sendK s (col j) (row j) ⟨e, he⟩ ⟨e', he'⟩ k = sendC d s k := by
  have h := (rawDev_eq d s).symm.trans hd
  obtain ⟨h1, h2⟩ := Prod.mk.inj h
  subst hj h1 h2; rfl

theorem rawStart_eq (d : Dev nD) (k : P F) :
    rawStart d k = (barrierK (peer d) <| ownK (off6 d) (packed6 d) (off7 d) (packed7 d) <| [0, 1, 2, 3, 4].foldr (sendC d) <| ownC d k) := by
  simp only [rawStart, own6_eq, own7_eq, w3_eq, w4_eq, kv5_eq, kv6_eq, peers_eq]
  rw [sendK_eq (d := d) 0 rfl (outc_own d 0 (by decide)), sendK_eq (d := d) 1 rfl (outc_own d 1 (by decide)),
    sendK_eq (d := d) 2 rfl (outc_own d 2 (by decide)), sendK_eq (d := d) 3 rfl (outc_own d 3 (by decide)),
    sendK_eq (d := d) 4 rfl (outc_own d 4 (by decide))]
  rfl

/-- A receipt of the body is the receipt by chunk, where it is the slot's and sends on what the slot does. -/
theorem recvK_eq (d : Dev nD) (i s : Fin 15) (hs : s = rs i) (f : P F → P F) (hf : ∀ k, f k = (sl i).foldr (sendC d) k) (k : P F) :
    recvK s (col (inc d s)) (row (inc d s)) f (off6 (inc d s)) (off7 (inc d s)) (kvAt 0 (inc d s)) (kvAt 1 (inc d s)) k = recvC d i k := by
  subst hs
  rw [recvK, hf]; rfl

theorem rawPlane_eq (d : Dev nD) (k : P F) : rawPlane d k = (recvC d 0 <| recvC d 1 <| recvC d 2 k) := by
  simp only [rawPlane, w7_eq, w8_eq, l9_eq, kv10_eq, l11_eq, kv12_eq, w13_eq, w14_eq, l15_eq, kv16_eq, l17_eq, kv18_eq, w19_eq, w20_eq,
    l21_eq, kv22_eq, l23_eq, kv24_eq]
  rw [recvK_eq d 0 3 rfl id fun _ => rfl, recvK_eq d 1 4 rfl (sendK 5 _ _ _ _) fun k => sendK_eq (d := d) 5 rfl (outc_feed d 5 4 (by decide)) k,
    recvK_eq d 2 5 rfl id fun _ => rfl]

/-- A round is four receipts, given what each sends on. -/
theorem rawRound_eq (d : Dev nD) (r : Fin 3) (i : Fin 3 → Fin 15) (i' : Fin 15) (hz : zs r = rs (i 0)) (hx : xs r = rs (i 1)) (hy : ys r = rs (i 2))
    (he : es r = rs i') (fz fx fy : P F → P F) (hfz : ∀ k, fz k = (sl (i 0)).foldr (sendC d) k)
    (hfx : ∀ k, fx k = (sl (i 1)).foldr (sendC d) k) (hfy : ∀ k, fy k = (sl (i 2)).foldr (sendC d) k) (hfe : sl i' = []) (k : P F) :
    rawRound d r (zs r) (xs r) (ys r) (es r) fz fx fy k = (recvC d (i 0) <| recvC d (i 1) <| recvC d (i 2) <| recvC d i' k) := by
  simp only [rawRound, w25_eq, w26_eq, l27_eq, kv28_eq, l29_eq, kv30_eq, w31_eq, w32_eq, l33_eq, kv34_eq, l35_eq, kv36_eq, w37_eq, w38_eq,
    l39_eq, kv40_eq, l41_eq, kv42_eq, w43_eq, w44_eq, l45_eq, kv46_eq, l47_eq, kv48_eq]
  rw [recvK_eq d (i 0) _ hz _ hfz, recvK_eq d (i 1) _ hx _ hfx, recvK_eq d (i 2) _ hy _ hfy,
    recvK_eq d i' _ he id fun _ => by rw [hfe]; rfl]

theorem rawRounds_eq (d : Dev nD) (k : P F) :
    rawRounds d k = (recvC d 3 <| recvC d 4 <| recvC d 5 <| recvC d 6 <| recvC d 7 <| recvC d 8 <| recvC d 9 <| recvC d 10 <|
      recvC d 11 <| recvC d 12 <| recvC d 13 <| recvC d 14 k) := by
  simp only [rawRounds, w25_eq, w26_eq, w31_eq, w32_eq, w37_eq, w38_eq]
  refine (rawRound_eq d 0 ![3, 4, 5] 6 rfl rfl rfl rfl _ _ _ (fun k => ?_) (fun k => ?_) (fun k => rfl) rfl _).trans ?_
  · rw [sendK_eq (d := d) 6 rfl (outc_feed d 6 (zs 0) (by decide)), sendK_eq (d := d) 7 rfl (outc_feed d 7 (zs 0) (by decide))]; rfl
  · exact sendK_eq (d := d) 8 rfl (outc_feed d 8 (xs 0) (by decide)) k
  refine congrArg (fun k => recvC d 3 <| recvC d 4 <| recvC d 5 <| recvC d 6 k) ?_
  refine (rawRound_eq d 1 ![7, 8, 9] 10 rfl rfl rfl rfl _ _ _ (fun k => ?_) (fun k => rfl) (fun k => ?_) rfl _).trans ?_
  · rw [sendK_eq (d := d) 9 rfl (outc_feed d 9 (zs 1) (by decide)), sendK_eq (d := d) 10 rfl (outc_feed d 10 (zs 1) (by decide))]; rfl
  · exact sendK_eq (d := d) 11 rfl (outc_feed d 11 (ys 1) (by decide)) k
  refine congrArg (fun k => recvC d 7 <| recvC d 8 <| recvC d 9 <| recvC d 10 k) ?_
  refine (rawRound_eq d 2 ![11, 12, 13] 14 rfl rfl rfl rfl _ _ _ (fun k => ?_) (fun k => ?_) (fun k => rfl) rfl _).trans ?_
  · rw [sendK_eq (d := d) 12 rfl (outc_feed d 12 (zs 2) (by decide)), sendK_eq (d := d) 13 rfl (outc_feed d 13 (zs 2) (by decide))]; rfl
  · exact sendK_eq (d := d) 14 rfl (outc_feed d 14 (xs 2) (by decide)) k
  rfl

/-- A wait of the body for a transfer sent is the wait by chunk. -/
theorem waitK_eq (d : Dev nD) (s : Fin 15) {j : Dev nD} (hj : outc d s = j) (k : P F) : waitK s 0 (col j) (row j) k = doneC d s k := by
  subst hj; rfl

theorem rawEnd_eq (d : Dev nD) : rawEnd (F := F) d = (List.finRange 15).foldr (doneC d) (.ret ⟨⟩) := by
  simp only [rawEnd, w3_eq, w4_eq, w13_eq, w14_eq, w25_eq, w26_eq, w31_eq, w32_eq, w37_eq, w38_eq]
  rw [waitK_eq d 0 (outc_own d 0 (by decide)), waitK_eq d 1 (outc_own d 1 (by decide)), waitK_eq d 2 (outc_own d 2 (by decide)),
    waitK_eq d 3 (outc_own d 3 (by decide)), waitK_eq d 4 (outc_own d 4 (by decide)), waitK_eq d 5 (outc_feed d 5 4 (by decide)),
    waitK_eq d 6 (outc_feed d 6 (zs 0) (by decide)), waitK_eq d 7 (outc_feed d 7 (zs 0) (by decide)), waitK_eq d 8 (outc_feed d 8 (xs 0) (by decide)),
    waitK_eq d 9 (outc_feed d 9 (zs 1) (by decide)), waitK_eq d 10 (outc_feed d 10 (zs 1) (by decide)), waitK_eq d 11 (outc_feed d 11 (ys 1) (by decide)),
    waitK_eq d 12 (outc_feed d 12 (zs 2) (by decide)), waitK_eq d 13 (outc_feed d 13 (zs 2) (by decide)), waitK_eq d 14 (outc_feed d 14 (xs 2) (by decide))]
  rfl

/-- The body at a device is the program by chunk. -/
theorem rawAt_eq (d : Dev nD) : rawAt (F := F) d = progAt d := by
  rw [rawAt, rawStart_eq, rawPlane_eq, rawRounds_eq, rawEnd_eq]
  rfl

theorem body_prog :
    cc0_body (F := F) mX (Memref.isWhole_whole _) mWq (Memref.isWhole_whole _) mWo (Memref.isWhole_whole _) mK (Memref.isWhole_whole _)
      mV (Memref.isWhole_whole _) mOut (Memref.isWhole_whole _) mQ (Memref.isWhole_whole _) mO (Memref.isWhole_whole _) mC (Memref.isWhole_whole _)
      cc0_scratch3 cc0_scratch4 cc0_scratch5 cc0_scratch6 cc0_scratch7 cc0_scratch8 cc0_scratch9 cc0_scratch10 cc0_scratch11 cc0_scratch12
      cc0_scratch13 cc0_scratch14
      = .op .deviceId fun d => progAt d := by
  rw [body_raw]
  exact congrArg _ (funext rawAt_eq)

end Cert.KernelIdeal.Fused

end
-- ==== Proof.Run.lean ====
/- The whole body on one device. -/
module

public import proofs.«01_k».proof.Proof.Gather
public import proofs.«01_k».proof.Proof.Bar
public import proofs.«01_k».proof.Proof.Body

@[expose] public section

set_option maxRecDepth 8000

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (WQ : BQ F) (WO : BO F)

/-! ## The accumulators -/

/-- The chunk processed after `i` others. -/
def nth (c : Dev nD) : ℕ → Dev nD := fun i => if h : i < 15 then inc c (rs ⟨i, h⟩) else c

theorem nth_val (c : Dev nD) (i : Fin 15) : nth c i.val = inc c (rs i) := dif_pos i.isLt

/-- The accumulators once the own chunk and `i` more are processed. -/
def acc (X : CX F) (kk : CK F) (vv : CV F) (c : Dev nD) : ℕ → Fin 2 → Vec F S1x256x512 .f32
  | 0, b => accFirst (contrib WQ WO X kk vv b c)
  | i + 1, b => accNext (acc X kk vv c i b) (contrib WQ WO X kk vv b (nth c i))

/-! ## One received chunk -/

/-- Receipts and accumulators after `i` receipts. -/
def Rc (X : CX F) (kk : CK F) (vv : CV F) (c : Dev nD) (i : ℕ) : sProp 𝕄 :=
  iprop(St WQ WO c (nSent i) i ∗ Cmp c X kk vv (acc WQ WO X kk vv c i))

theorem sl_run (i : Fin 15) : (sl i).map (fun s => s.val) = List.range' (nSent i.val) (sl i).length ∧ nSent i.val + (sl i).length = nSent (i.val + 1)
    ∧ ∀ s ∈ sl i, s.val < nSent (i.val + 1) := by revert i; decide +kernel

theorem arr_inc (c : Dev nD) (i : Fin 15) : inc c (rs i) ∈ arr c (i.val + 1) := by rw [arr_succ]; exact Finset.mem_insert_self _ _

/-- A chunk is received, passed on and processed. -/
theorem recv_spec (K : GSem nD τ sig → ℕ) (X : CX F) (kk : CK F) (vv : CV F) (c : Dev nD) (i : Fin 15) (k : P F) (Q : PUnit → sProp 𝕄) :
    iprop(env WQ WO K c ∗ Rc WQ WO X kk vv c i.val ∗ (Rc WQ WO X kk vv c (i.val + 1) -∗ WP c Q k)) ⊢ WP c Q (recvC c i k) := by
  unfold Rc recvC
  iintro ⟨#HE, ⟨HS, HC⟩, Hk⟩
  iapply (St_recv WQ WO K c i)
  isplitr; · iexact HE
  isplitl [HS]; · iexact HS
  iintro HS
  iapply (steps (R := env WQ WO K c) (fun n => St WQ WO c n (i.val + 1)) (sendC c) c Q _ (sl i) (nSent i.val) (sl_run i).1
    fun s hs k' => St_send WQ WO K c i.succ s ((sl_run i).2.2 s hs) k' Q)
  isplitr; · iexact HE
  isplitl [HS]; · iexact HS
  rw [(sl_run i).2.1]
  iintro HS
  icases (St_read WQ WO c (nSent (i.val + 1)) (i.val + 1) (arr_inc c i)) $$ HS with ⟨HW, HS⟩
  iapply (chunk_spec WQ WO c (inc c (rs i)) X kk vv (acc WQ WO X kk vv c i.val) (sh 7))
  isplitl [HC]; · iexact HC
  isplitl [HW]; · iexact HW
  iintro ⟨HC, HW⟩
  iapply Hk
  isplitl [HS HW]
  · iapply HS; iexact HW
  · rw [← nth_val]; iexact HC

/-! ## Closing the cells -/

/-- All of the device's cells at zero. -/
def closed (c : Dev nD) : sProp 𝕄 :=
  iprop((bigSep Finset.univ fun s : Fin 15 => iprop(semVal (cell c s 0) 0 ∗ semVal (cell c s 2) 0))
    ∗ (bigSep Finset.univ fun s : Fin 15 => iprop(semVal (cell c s 1) 0 ∗ semVal (cell c s 3) 0)) ∗ semVal (barCell c) 0)

theorem close1 (K : GSem nD τ sig → ℕ) (g : GSem nD τ sig) :
    iprop(cellInv ER (Rd WQ WO) (K g) g ∗ atPos ER g (0 + 1) ∅ 0) ⊢ iprop(|={Set.univ}=> semVal g 0) :=
  Rounds.cell_close ER (Rd WQ WO) (Set.mem_univ (K g)) id (duties_later WQ WO g)

theorem close2 (K : GSem nD τ sig → ℕ) (c : Dev nD) (s : Fin 15) (k k' : Fin 4) :
    iprop(recs WQ WO K ∗ atPos ER (cell c s k) (0 + 1) ∅ 0 ∗ atPos ER (cell c s k') (0 + 1) ∅ 0)
      ⊢ iprop(|={Set.univ}=> (semVal (cell c s k) 0 ∗ semVal (cell c s k') 0)) := by
  iintro ⟨#HR, H0, H2⟩
  imod (close1 WQ WO K (cell c s k)) $$ [H0] with H0
  · isplitr; · iapply (recs_cell WQ WO K c s k); iexact HR
    iexact H0
  imod (close1 WQ WO K (cell c s k')) $$ [H2] with H2
  · isplitr; · iapply (recs_cell WQ WO K c s k'); iexact HR
    iexact H2
  imodintro
  isplitl [H0]; · iexact H0
  iexact H2

theorem close_side (K : GSem nD τ sig → ℕ) (c : Dev nD) (k k' : Fin 4) :
    iprop(recs WQ WO K ∗ bigSep Finset.univ fun s : Fin 15 => iprop(atPos ER (cell c s k) (0 + 1) ∅ 0 ∗ atPos ER (cell c s k') (0 + 1) ∅ 0))
      ⊢ iprop(|={Set.univ}=> bigSep Finset.univ fun s : Fin 15 => iprop(semVal (cell c s k) 0 ∗ semVal (cell c s k') 0)) := by
  refine (bigSep_with_persistent (S := Finset.univ) (R := recs WQ WO K) (Ψ := fun s : Fin 15 => iprop(|={Set.univ}=> (semVal (cell c s k) 0 ∗ semVal (cell c s k') 0))) fun s hs => close2 WQ WO K c s k k').trans
    (bigSep_fupd Finset.univ fun s : Fin 15 => iprop(semVal (cell c s k) 0 ∗ semVal (cell c s k') 0))

/-- Every cell closes once all is done. -/
theorem close_all (K : GSem nD τ sig → ℕ) (c : Dev nD) :
    iprop(recs WQ WO K ∗ (bigSep Finset.univ fun s : Fin 15 => doneRes (F := F) c s 0) ∗ (bigSep Finset.univ fun s : Fin 15 => doneRes (F := F) c s 1)
        ∗ atPos ER (barCell c) (0 + 1) ∅ 0) ⊢ iprop(|={Set.univ}=> closed (F := F) c) := by
  unfold closed doneRes
  iintro ⟨#HR, H0, H1, HB⟩
  imod (close_side WQ WO K c 0 2) $$ [H0] with H0
  · isplitr; · iexact HR
    iexact H0
  imod (close_side WQ WO K c 1 3) $$ [H1] with H1
  · isplitr; · iexact HR
    iexact H1
  imod (close1 WQ WO K (barCell c)) $$ [HB] with HB
  · isplitr; · iapply (recs_bar WQ WO K c); iexact HR
    iexact HB
  imodintro
  isplitl [H0]; · iexact H0
  isplitl [H1]; · iexact H1
  iexact HB

/-! ## The body -/

/-- What slot `s` needs from the launch for its sends. -/
def sendTok (c : Dev nD) (s : Fin 15) : sProp 𝕄 :=
  iprop((dutyTok ER (cell c s 0) 0 0 ∗ dutyTok ER (cell (tgt c s) s 1) 0 0 ∗ dutyTok ER (cell c s 2) 0 0 ∗ dutyTok ER (cell (tgt c s) s 3) 0 0)
    ∗ (atPos ER (cell c s 0) 0 ∅ 0 ∗ atPos ER (cell c s 2) 0 ∅ 0))

/-- What the protocol gives the device at the start. -/
def Start (c : Dev nD) : sProp 𝕄 :=
  iprop((bigSep Finset.univ fun k : Fin 5 => dutyTok ER (barCell (peer c k)) 0 k) ∗ (cred (tallyAt (barCell c) () 5) ∗ atPos ER (barCell c) 0 ∅ 0)
    ∗ (bigSep Finset.univ fun s : Fin 15 => sendTok (F := F) c s) ∗ bigSep Finset.univ fun s : Fin 15 => waitRes (F := F) c s 1)

/-- The scratch buffers. -/
def Scr (c : Dev nD) : sProp 𝕄 := iprop(((∃ f : BQ F, ptQs c f) ∗ ∃ f : BO F, ptOs c f) ∗ ∃ f : CC F, ptC c f)

theorem heldP_zero (c : Dev nD) : heldP c 0 0 = ({c} : Finset (Dev nD)) ×ˢ Finset.univ := by revert c; decide +kernel

/-- The state once the peers are ready and the own chunk is in place. -/
theorem St_start (c : Dev nD) (W : Waits sig Unit) :
    iprop((bigSep Finset.univ fun s : Fin 15 => sendTok (F := F) c s) ∗ (bigSep Finset.univ fun s : Fin 15 => slotPay (F := F) c s)
      ∗ (bigSep Finset.univ fun s : Fin 15 => waitRes (F := F) c s 1) ∗ (ptQ c c fullShare WQ ∗ ptO c c fullShare WO) ∗ owes (c : Thread nD τ) (owe c 0) W)
    ⊢ St WQ WO c 0 0 := by
  unfold St
  rw [hi_zero, lo_zero, heldP_zero, ← chunk_pieces]
  rw [show (bigSep Finset.univ fun i : Fin 15 => waitRes (F := F) c (rs i) 1) = bigSep Finset.univ fun s : Fin 15 => waitRes (F := F) c s 1 by
    rw [← big_image (fun _ _ _ _ h => rs_inj h) fun s : Fin 15 => waitRes (F := F) c s 1, rs_univ]]
  have hs : iprop((bigSep Finset.univ fun s : Fin 15 => sendTok (F := F) c s) ∗ bigSep Finset.univ fun s : Fin 15 => slotPay (F := F) c s)
      ⊢ bigSep Finset.univ fun s : Fin 15 => sendRes (F := F) c s := by
    rw [← big_sep]
    refine big_mono fun s _ => ?_
    unfold sendRes sendTok
    iintro ⟨⟨Ht, Ha⟩, Hp⟩
    isplitl [Ht]; · iexact Ht
    isplitl [Ha]; · iexact Ha
    iexact Hp
  rw [big_empty, big_empty]
  iintro ⟨Ht, Hp, Hw, HW, HO⟩
  isplitl [Ht Hp]
  · iapply hs
    isplitl [Ht]; · iexact Ht
    iexact Hp
  isplitr; · iempintro
  isplitl [Hw]; · iexact Hw
  isplitr; · iempintro
  isplitl [HW]; · iexact HW
  iexists W; iexact HO

theorem run5 : ([0, 1, 2, 3, 4] : List (Fin 15)).map (fun s => s.val) = List.range' 0 ([0, 1, 2, 3, 4] : List (Fin 15)).length := by decide
theorem run15 : (List.finRange 15).map (fun s => s.val) = List.range' 0 (List.finRange 15).length := by decide
theorem five_lt (s : Fin 15) (h : s ∈ ([0, 1, 2, 3, 4] : List (Fin 15))) : s.val < nSent (0 : Fin 16).val := by revert s; decide

theorem ret_spec (c : Dev nD) (Q : PUnit → sProp 𝕄) : iprop(|={Set.univ}=> Q ⟨⟩) ⊢ WP c Q (.ret ⟨⟩) := by
  unfold WP; rw [wp_ret]

/-- What the body is run with, and what it returns, besides the semaphores. -/
def Held (c : Dev nD) (X : CX F) (kk : CK F) (vv : CV F) (wq : CWq F) (wo : CWo F) : sProp 𝕄 :=
  iprop(Scr (F := F) c ∗ ins c X kk vv ∗ ptWq c wq ∗ ptWo c wo)

/-- The body on one device: from the protocol's start, the scratch buffers and the staged inputs to the closed cells and the accumulated output. -/
theorem body_spec (K : GSem nD τ sig → ℕ) (c : Dev nD) (X : CX F) (kk : CK F) (vv : CV F) (wq : CWq F) (wo : CWo F)
    (hq : (mQ.access (off6 c).rect).read (Elt F) WQ = wq) (ho : (mO.access (off7 c).rect).read (Elt F) WO = wo) (Q : PUnit → sProp 𝕄) :
    iprop(env WQ WO K c ∗ Start (F := F) c ∗ Held c X kk vv wq wo ∗ (∃ f : CO F, ptOut c f) ∗ (∃ W, owes (c : Thread nD τ) (O₀ c) W)
        ∗ ((closed (F := F) c ∗ Held c X kk vv wq wo ∗ outIs c (acc WQ WO X kk vv c 15) ∗ ∃ W, owes (c : Thread nD τ) 0 W) -∗ Q ⟨⟩))
      ⊢ WP c Q (progAt c) := by
  unfold progAt Start Held Scr
  iintro ⟨#HE, ⟨Hbt, Hb, Hst, Hwt⟩, ⟨⟨HM, HC⟩, Hi, HWq, HWo⟩, ⟨%f, HO⟩, ⟨%W, HD⟩, HQ⟩
  icases (places c) $$ HM with ⟨Hown, Hpl⟩
  iapply (barrier_spec WQ WO K c W)
  isplitr; · iexact HE
  isplitl [Hbt]; · iexact Hbt
  isplitl [Hpl]; · iexact Hpl
  isplitl [Hb]; · iexact Hb
  isplitl [HD]; · iexact HD
  iintro ⟨Hsp, HB, ⟨%W', HD⟩⟩
  iapply (copy_spec WQ WO c wq wo hq ho)
  isplitl [HWq HWo]
  · isplitl [HWq]; · iexact HWq
    iexact HWo
  isplitl [Hown]; · iexact Hown
  iintro ⟨HW, Hown⟩
  ihave HS := (St_start WQ WO c W') $$ [Hst Hsp Hwt Hown HD]
  · isplitl [Hst]; · iexact Hst
    isplitl [Hsp]; · iexact Hsp
    isplitl [Hwt]; · iexact Hwt
    isplitl [Hown]; · iexact Hown
    iexact HD
  iapply (steps (R := env WQ WO K c) (fun n => St WQ WO c n 0) (sendC c) c Q _ [0, 1, 2, 3, 4] 0 run5
    fun s hs k' => St_send WQ WO K c 0 s (five_lt s hs) k' Q)
  isplitr; · iexact HE
  isplitl [HS]; · iexact HS
  iintro HS
  ihave HS := (Entails.of_eq (show St WQ WO c (0 + ([0, 1, 2, 3, 4] : List (Fin 15)).length) 0 = St WQ WO c (nSent 0) 0 from rfl)) $$ HS
  icases (St_read WQ WO c (nSent 0) 0 (j := c) (Finset.mem_insert_self _ _)) $$ HS with ⟨HP, HS⟩
  iapply (own_spec WQ WO c X kk vv (fun b => (mOut.access (rectB b)).read (Elt F) f) (sh 7))
  isplitl [Hi HC HO]
  · unfold Cmp outIs
    isplitl [Hi HC]
    · isplitl [Hi]; · iexact Hi
      iexact HC
    · iexists f
      isplitr; · ipureintro; exact fun _ => rfl
      iexact HO
  isplitl [HP]; · iexact HP
  iintro ⟨HC, HP⟩
  iapply (steps (R := env WQ WO K c) (Rc WQ WO X kk vv c) (recvC c) c Q _ (List.finRange 15) 0 run15
    fun i _ k' => recv_spec WQ WO K X kk vv c i k' Q)
  isplitr; · iexact HE
  isplitl [HC HP HS]
  · unfold Rc
    isplitl [HP HS]; · iapply HS; iexact HP
    iexact HC
  iintro HR
  ihave HR := (Entails.of_eq (show Rc WQ WO X kk vv c (0 + (List.finRange 15).length) = iprop(St WQ WO c 15 15 ∗ Cmp c X kk vv (acc WQ WO X kk vv c 15)) from rfl)) $$ HR
  icases HR with ⟨HS, HC⟩
  icases (St_end WQ WO c) $$ HS with ⟨HN, Hd1, Hp⟩
  iapply (steps (R := env WQ WO K c) (En WQ WO c) (doneC c) c Q _ (List.finRange 15) 0 run15
    fun i _ k' => En_done WQ WO K c i k' Q)
  isplitr; · iexact HE
  isplitl [HN]; · iexact HN
  iintro HN
  icases (En_end WQ WO c) $$ [HN Hp] with ⟨Hd0, HG, HD⟩
  · isplitl [HN]; · iexact HN
    iexact Hp
  ihave HG := (Entails.of_eq (gathered c WQ WO)) $$ HG
  icases HG with ⟨HG6, HG7⟩
  iapply (ret_spec c Q)
  imod (close_all WQ WO K c) $$ [Hd0 Hd1 HB] with HZ
  · isplitr; · unfold env; icases HE with ⟨HR, -⟩; iexact HR
    isplitl [Hd0]; · iexact Hd0
    isplitl [Hd1]; · iexact Hd1
    iexact HB
  imodintro
  iapply HQ
  unfold Cmp
  icases HC with ⟨⟨Hi, HC⟩, HO⟩
  isplitl [HZ]; · iexact HZ
  isplitl [HG6 HG7 HC Hi HW]
  · isplitl [HG6 HG7 HC]
    · isplitl [HG6 HG7]
      · isplitl [HG6]; · iexists WQ; iexact HG6
        iexists WO; iexact HG7
      iexact HC
    isplitl [Hi]; · iexact Hi
    iexact HW
  isplitl [HO]; · iexact HO
  iexact HD

end Cert.KernelIdeal.Fused

end
-- ==== Proof.Open.lean ====
/- The kernel's entry: with its semaphores at zero a device opens its own cells. -/
module

public import proofs.«01_k».proof.Proof.Run
public import Idealize.ShloMosaic.Lib.Rounds.Family
public import Idealize.ShloMosaic.Lib.Pipeline.RegionTalk

@[expose] public section

set_option maxRecDepth 8000

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (WQ : BQ F) (WO : BO F)

/-- The semaphores of the legs. -/
def legSem (p : Fin 15 × Fin 4) : SemLoc sig := .dma (slotSem p.1 p.2)

theorem legFacts : Pipeline.OwnSemFacts spec0 legSem where
  isScoped := by decide +kernel
  inj := fun p q h => by
    obtain ⟨h1, h2⟩ := slotSem_inj (SemLoc.dma.inj h)
    exact Prod.ext h1 h2
  disj := by decide +kernel

theorem regroup (A B C D : sProp 𝕄) : iprop(A ∗ B ∗ C ∗ D) = iprop((A ∗ B) ∗ C ∗ D) := by
  have h1 : iprop(A ∗ B ∗ C ∗ D) ⊢ iprop((A ∗ B) ∗ C ∗ D) := by
    iintro ⟨H0, H2, H1, H3⟩
    isplitl [H0 H2]
    · isplitl [H0]; · iexact H0
      iexact H2
    isplitl [H1]; · iexact H1
    iexact H3
  have h2 : iprop((A ∗ B) ∗ C ∗ D) ⊢ iprop(A ∗ B ∗ C ∗ D) := by
    iintro ⟨⟨H0, H2⟩, H1, H3⟩
    isplitl [H0]; · iexact H0
    isplitl [H2]; · iexact H2
    isplitl [H1]; · iexact H1
    iexact H3
  exact Entails.antisymm h1 h2

/-- A product over the legs, the sending ends first. -/
theorem by_leg (Φ : Fin 15 × Fin 4 → sProp 𝕄) :
    bigSep Finset.univ Φ = iprop((bigSep Finset.univ fun s : Fin 15 => iprop(Φ (s, 0) ∗ Φ (s, 2)))
      ∗ bigSep Finset.univ fun s : Fin 15 => iprop(Φ (s, 1) ∗ Φ (s, 3))) := by
  rw [bigSep_univ_prod, ← big_sep]
  refine congrArg _ (funext fun s => ?_)
  rw [show (Finset.univ : Finset (Fin 4)) = insert 0 (insert 2 (insert 1 {3})) by decide,
    big_insert (by decide), big_insert (by decide), big_insert (by decide), bigSep_singleton]
  exact regroup _ _ _ _

/-- The duties of slot `s`'s two legs. -/
def sendDuty (c : Dev nD) (s : Fin 15) : sProp 𝕄 :=
  iprop(dutyTok ER (cell c s 0) 0 0 ∗ dutyTok ER (cell (tgt c s) s 1) 0 0 ∗ dutyTok ER (cell c s 2) 0 0 ∗ dutyTok ER (cell (tgt c s) s 3) 0 0)

/-- The credit of what lands in slot `s`. -/
def recvCred (c : Dev nD) (s : Fin 15) : sProp 𝕄 :=
  iprop(cred (tallyAt (cell c s 1) () N6) ∗ cred (tallyAt (cell c s 3) () N7))

/-- What the launch keeps for the kernel on one device, its own cells still dormant. -/
def Kept (K : GSem nD τ sig → ℕ) (c : Dev nD) : sProp 𝕄 :=
  iprop(recs WQ WO K ∗ (bigSep Finset.univ fun d : Dev nD => reached ER (barCell d) 0) ∗ atPos ER (barCell c) 0 ∅ 0
    ∗ (bigSep Finset.univ fun p : Fin 15 × Fin 4 => openTok ER (cell c p.1 p.2))
    ∗ (bigSep Finset.univ fun k : Fin 5 => dutyTok ER (barCell (peer c k)) 0 k) ∗ cred (tallyAt (barCell c) () 5)
    ∗ (bigSep Finset.univ fun s : Fin 15 => sendDuty (F := F) c s) ∗ bigSep Finset.univ fun s : Fin 15 => recvCred (F := F) c s)

/-- What the kernel starts with. -/
def Opened (c : Dev nD) : sProp 𝕄 := iprop((∃ K, env WQ WO K c) ∗ Start (F := F) c)

theorem own_sems (c : Dev nD) : (Pipeline.ownSems0 legSem c : sProp 𝕄) = bigSep Finset.univ fun p : Fin 15 × Fin 4 => semVal (cell c p.1 p.2) 0 := rfl

/-- The cells open. -/
theorem opens (c : Dev nD) :
    iprop((∃ K, Kept WQ WO K c) ∗ Pipeline.ownSems0 legSem c ∗ levAts L lv) ⊢ (|={Set.univ}=> Opened WQ WO c : sProp 𝕄) := by
  rw [own_sems]
  unfold Kept
  iintro ⟨⟨%K, #HR, #Hbar, Ha, Ho, Hb, Hcb, Hd, Hc⟩, Hs, #HL⟩
  imod (Rounds.cells_open (Es := Set.univ) ER (Rd WQ WO) Finset.univ (fun p : Fin 15 × Fin 4 => cell c p.1 p.2) (fun p => K (cell c p.1 p.2)) (fun _ _ => Set.mem_univ _)) $$ [Ho Hs] with H
  · isplitl [Ho]
    · iapply (bigSep_with_persistent (S := Finset.univ) (R := recs WQ WO K) (Φ := fun p : Fin 15 × Fin 4 => openTok ER (cell c p.1 p.2))
        (Ψ := fun p : Fin 15 × Fin 4 => iprop(cellInv ER (Rd WQ WO) (K (cell c p.1 p.2)) (cell c p.1 p.2) ∗ openTok ER (cell c p.1 p.2))) fun p _ => by
          iintro ⟨#HR, Ho⟩
          isplitr; · iapply (recs_cell WQ WO K c p.1 p.2); iexact HR
          iexact Ho)
      isplitr; · iexact HR
      iexact Ho
    iexact Hs
  imodintro
  ihave H := (Entails.of_eq (big_sep Finset.univ (fun p : Fin 15 × Fin 4 => (atPos ER (cell c p.1 p.2) 0 ∅ 0 : sProp 𝕄)) fun p => reached ER (cell c p.1 p.2) 0)) $$ H
  icases H with ⟨Hp, #Hr⟩
  ihave Hp := (Entails.of_eq (by_leg fun p : Fin 15 × Fin 4 => (atPos ER (cell c p.1 p.2) 0 ∅ 0 : sProp 𝕄))) $$ Hp
  icases Hp with ⟨Hp0, Hp1⟩
  unfold Opened
  isplitr
  · iexists K
    unfold env levs
    isplitr; · iexact HR
    isplitr; · iexact HL
    isplitr; · iexact Hr
    iexact Hbar
  unfold Start
  isplitl [Hb]; · iexact Hb
  isplitl [Ha Hcb]
  · isplitl [Hcb]; · iexact Hcb
    iexact Ha
  isplitl [Hd Hp0]
  · iapply (Entails.of_eq (big_sep Finset.univ (fun s : Fin 15 => sendDuty (F := F) c s) fun s : Fin 15 => iprop(atPos ER (cell c s 0) 0 ∅ 0 ∗ atPos ER (cell c s 2) 0 ∅ 0)).symm)
    isplitl [Hd]; · iexact Hd
    iexact Hp0
  · iapply (big_mono (Φ := fun s : Fin 15 => iprop(recvCred (F := F) c s ∗ (atPos ER (cell c s 1) 0 ∅ 0 ∗ atPos ER (cell c s 3) 0 ∅ 0))) fun s _ => by
      unfold recvCred waitRes
      iintro ⟨⟨Hc1, Hc3⟩, Hp1, Hp3⟩
      isplitl [Hc1 Hp1]
      · isplitl [Hc1]; · iexact Hc1
        iexact Hp1
      isplitl [Hc3]; · iexact Hc3
      iexact Hp3)
    iapply (Entails.of_eq (big_sep Finset.univ (fun s : Fin 15 => recvCred (F := F) c s) fun s : Fin 15 => iprop(atPos ER (cell c s 1) 0 ∅ 0 ∗ atPos ER (cell c s 3) 0 ∅ 0)).symm)
    isplitl [Hc]; · iexact Hc
    iexact Hp1

/-- The kernel's semaphores at zero, all again, and the barrier's beside them. -/
theorem closed_own (c : Dev nD) : closed (F := F) c ⊢ iprop(Pipeline.ownSems0 legSem c ∗ semVal (barCell c) 0) := by
  rw [own_sems, by_leg fun p : Fin 15 × Fin 4 => (semVal (cell c p.1 p.2) 0 : sProp 𝕄)]
  unfold closed
  iintro ⟨H0, H1, Hb⟩
  isplitl [H0 H1]
  · isplitl [H0]; · iexact H0
    iexact H1
  iexact Hb

end Cert.KernelIdeal.Fused

end
-- ==== Proof.Data.lean ====
/- The kernel's region on one device: what its windows hold before and after, and its body. -/
module

public import proofs.«01_k».proof.Proof.Open
public import proofs.«01_k».proof.Proof.Gen.KernelIdeal.Points
public import proofs.«01_k».proof.Proof.Gen.KernelIdeal.Regions
public import Idealize.ShloMosaic.Lib.Pipeline.ValueKit.Geometry

@[expose] public section

set_option maxRecDepth 8000

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F] [Named F]

local notation "𝕄" => MT nD τ sig Unit (Elt F) ℕ UU ℕ

/-! ## The output buffer -/

/-- The place within its batch element of an element of the output. -/
def inB (y : S2x256x512.Idx) : S1x256x512.Idx
  | ⟨0, _⟩ => (0 : Fin 1)
  | ⟨1, _⟩ => (⟨(y 1).val, (y 1).isLt⟩ : Fin 256)
  | ⟨2, _⟩ => (⟨(y 2).val, (y 2).isLt⟩ : Fin 512)

/-- The batch element of an element of the output. -/
def batch (y : S2x256x512.Idx) : Fin 2 := ⟨(y 0).val, (y 0).isLt⟩

/-- The output with the two batch elements given. -/
def outOf (a : Fin 2 → Vec F S1x256x512 .f32) : CO F := fun y => a (batch y) (inB y)

theorem atB_inB (y : S2x256x512.Idx) : atB (batch y) (inB y) = y := by
  refine funext fun i => Fin.ext ?_
  match i with
  | ⟨0, _⟩ => exact Nat.add_zero _
  | ⟨1, _⟩ => exact (Nat.zero_add _).trans (Nat.one_mul _)
  | ⟨2, _⟩ => exact (Nat.zero_add _).trans (Nat.one_mul _)

/-- The output's contents are determined by its batch elements. -/
theorem out_eq (f : CO F) (a : Fin 2 → Vec F S1x256x512 .f32) (h : ∀ b, (mOut.access (rectB b)).read (Elt F) f = a b) : f = outOf a := by
  funext y
  have e : (mOut.access (rectB (batch y))).read (Elt F) f (inB y) = f (atB (batch y) (inB y)) := rfl
  rw [h, atB_inB] at e
  exact e.symm

theorem out_known (c : Dev nD) (a : Fin 2 → Vec F S1x256x512 .f32) : outIs c a ⊢ ptOut c (outOf a) := by
  unfold outIs
  iintro ⟨%f, %h, H⟩
  obtain rfl := out_eq f a h
  iexact H

/-! ## The region's data -/

variable (V : Dev nD → Valuation τ sig (Elt F))

/-- The kernel's operands on device `c`. -/
def inX (c : Dev nD) : CX F := V c main_v19
def inWq (c : Dev nD) : CWq F := V c main_v20
def inWo (c : Dev nD) : CWo F := V c main_v21
def inK (c : Dev nD) : CK F := V c main_v16
def inV (c : Dev nD) : CV F := V c main_v18

/-- All the query weights and all the output weights. -/
def allQ : BQ F := gatherQ (inWq V)
def allO : BO F := gatherO (inWo V)

/-- What the kernel computes on device `c`. -/
def result (c : Dev nD) : CO F := outOf (acc (allQ V) (allO V) (inX V c) (inK V c) (inV V c) c 15)

/-- The windows after the kernel: the operands as they were, the result. -/
def leaves (c : Dev nD) : (w : Fin cfg0.W) → (cfg0.win w).block.Idx → Elt F (cfg0.win w).elt
  | ⟨0, _⟩ => inX V c
  | ⟨1, _⟩ => inWq V c
  | ⟨2, _⟩ => inWo V c
  | ⟨3, _⟩ => inK V c
  | ⟨4, _⟩ => inV V c
  | ⟨5, _⟩ => result V c

/-- The generator register. -/
def reg (c : Dev nD) : sProp 𝕄 := iprop(∃ r, prngReg c r)

/-- The invariant and the debts before the kernel (point 0) and after it. -/
def phiAt (c : Dev nD) (n : ℕ) : sProp 𝕄 := if n = 0 then iprop(Opened (allQ V) (allO V) c ∗ Scr (F := F) c ∗ reg (F := F) c)
    else iprop(closed (F := F) c ∗ Scr (F := F) c ∗ reg (F := F) c)
def owedAt (c : Dev nD) (n : ℕ) : CellTallies nD τ sig Unit := if n = 0 then O₀ c else 0

/-- The region's data on device `c`. -/
def dat (c : Dev nD) : Dat τ (Elt F) Unit ℕ UU ℕ cfg0 c where
  A w := V c (Pipeline.arrRef spec0 w)
  after w _ := leaves V c w
  Φ t := phiAt V c t.val
  q _ := fullShare
  owed t := owedAt c t.val

theorem last_ne : ¬ (Fin.last cfg0.N).val = 0 := by rw [Fin.val_last, show cfg0.N = 1 from N_0]; decide

theorem phi_first (c : Dev nD) : (dat V c).Φ 0 = iprop(Opened (allQ V) (allO V) c ∗ Scr (F := F) c ∗ reg (F := F) c) :=
  show phiAt V c 0 = _ from if_pos rfl
theorem phi_last (c : Dev nD) : (dat V c).Φ (Fin.last cfg0.N) = iprop(closed (F := F) c ∗ Scr (F := F) c ∗ reg (F := F) c) :=
  show phiAt V c (Fin.last cfg0.N).val = _ from if_neg last_ne
theorem owed_first (c : Dev nD) : (dat V c).owed 0 = O₀ c := show owedAt c 0 = _ from if_pos rfl
theorem owed_last (c : Dev nD) : (dat V c).owed (Fin.last cfg0.N) = 0 := show owedAt c (Fin.last cfg0.N).val = _ from if_neg last_ne

/-! ## The staged operands -/

/-- A fetched whole array is the array. -/
theorem fetched_at {c : Dev nD} (D : Dat τ (Elt F) Unit ℕ UU ℕ cfg0 c) (w : Fin cfg0.W) (t : Fin cfg0.N)
    (h0 : ∀ a, (cfg0.win w).index t a = 0) (hx : ∀ a, (cfg0.win w).xsize (cfg0.grid.coords t) a = (cfg0.win w).size a)
    (hs : ∀ a, (cfg0.win w).size a ≤ (cfg0.win w).shape.size a)
    (d : (cfg0.win w).block.Idx → Elt F (cfg0.win w).elt) (y : (cfg0.win w).block.Idx) :
    D.fetched w t d y = _root_.cast (congrArg (Elt F) (cfg0.win w).arr.view.elt_eq)
      (D.A w ((cfg0.win w).arr.view.emb fun a => ⟨(y a).val, Nat.lt_of_lt_of_le (y a).isLt (hs a)⟩)) := by
  have hm : (cfg0.win w).moved (cfg0.grid.coords t) y = true := ((cfg0.win w).moved_iff _ y).mpr fun a => by rw [hx a]; exact (y a).isLt
  unfold Dat.fetched Pipeline.Window.fill
  rw [dif_pos hm]
  unfold Dat.blockOf
  rw [View.read_apply]
  show _root_.cast _ (D.A w ((cfg0.win w).arr.view.emb (((cfg0.win w).rect t).emb _))) = _
  congr 3
  funext a; apply Fin.ext
  rw [Pipeline.Window.rect_emb_val_of_index_zero _ _ _ (h0 a)]

theorem found0 (c : Dev nD) (t : Fin cfg0.N) (d) : (dat V c).before 0 t d = inX V c := by
  rw [(dat V c).before_fetched 0 t (fetch0_0 t) d]
  exact funext fun y => fetched_at (dat V c) 0 t (fun _ => rfl) (fun _ => rfl) (fun _ => le_rfl) d y
theorem found1 (c : Dev nD) (t : Fin cfg0.N) (d) : (dat V c).before 1 t d = inWq V c := by
  rw [(dat V c).before_fetched 1 t (fetch0_1 t) d]
  exact funext fun y => fetched_at (dat V c) 1 t (fun _ => rfl) (fun _ => rfl) (fun _ => le_rfl) d y
theorem found2 (c : Dev nD) (t : Fin cfg0.N) (d) : (dat V c).before 2 t d = inWo V c := by
  rw [(dat V c).before_fetched 2 t (fetch0_2 t) d]
  exact funext fun y => fetched_at (dat V c) 2 t (fun _ => rfl) (fun _ => rfl) (fun _ => le_rfl) d y
theorem found3 (c : Dev nD) (t : Fin cfg0.N) (d) : (dat V c).before 3 t d = inK V c := by
  rw [(dat V c).before_fetched 3 t (fetch0_3 t) d]
  exact funext fun y => fetched_at (dat V c) 3 t (fun _ => rfl) (fun _ => rfl) (fun _ => le_rfl) d y
theorem found4 (c : Dev nD) (t : Fin cfg0.N) (d) : (dat V c).before 4 t d = inV V c := by
  rw [(dat V c).before_fetched 4 t (fetch0_4 t) d]
  exact funext fun y => fetched_at (dat V c) 4 t (fun _ => rfl) (fun _ => rfl) (fun _ => le_rfl) d y

theorem stX (c : Dev nD) (t : Fin cfg0.N) (f : CX F) : (owns (c : Thread nD τ) (st0_0 t) fullShare f : sProp 𝕄) = ptX c f := owns_whole _ _ _ _
theorem stWq (c : Dev nD) (t : Fin cfg0.N) (f : CWq F) : (owns (c : Thread nD τ) (st0_1 t) fullShare f : sProp 𝕄) = ptWq c f := owns_whole _ _ _ _
theorem stWo (c : Dev nD) (t : Fin cfg0.N) (f : CWo F) : (owns (c : Thread nD τ) (st0_2 t) fullShare f : sProp 𝕄) = ptWo c f := owns_whole _ _ _ _
theorem stK (c : Dev nD) (t : Fin cfg0.N) (f : CK F) : (owns (c : Thread nD τ) (st0_3 t) fullShare f : sProp 𝕄) = ptK c f := owns_whole _ _ _ _
theorem stV (c : Dev nD) (t : Fin cfg0.N) (f : CV F) : (owns (c : Thread nD τ) (st0_4 t) fullShare f : sProp 𝕄) = ptV c f := owns_whole _ _ _ _
theorem stOut (c : Dev nD) (t : Fin cfg0.N) (f : CO F) : (owns (c : Thread nD τ) (st0_5 t) fullShare f : sProp 𝕄) = ptOut c f := owns_whole _ _ _ _

end Cert.KernelIdeal.Fused

end
-- ==== Proof.Region.lean ====
/- The kernel's region: the body on one device, and the region as a segment of @main. -/
module

public import proofs.«01_k».proof.Proof.Data

@[expose] public section

set_option maxRecDepth 8000

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F] [Named F]

local notation "𝕄" => MT nD τ sig Unit (Elt F) ℕ UU ℕ

variable (V : Dev nD → Valuation τ sig (Elt F))

/-! ## The body -/

/-- The kernel's body with the device read first. -/
theorem device_spec (c : Dev nD) (k : Dev nD → P F) (Q : PUnit → sProp 𝕄) : WP c Q (k c) ⊢ WP c Q (.op .deviceId k) := by
  unfold WP
  rw [wp_deviceId]

theorem body_at (t : Fin cfg0.N) : defs₀ (F := F) .tc cfg0.body (cfg0.bodyArgs t (cfg0.slots t)) = (.op .deviceId fun d => progAt d) := by
  refine Eq.trans ?_ body_prog
  unfold defs₀; rw [Defs.onTc_tc]

theorem owes_in (c : Dev nD) (t : Fin (cfg0.N + 1)) (O : CellTallies nD τ sig Unit) (h : (dat V c).owed t = O) :
    iprop(∃ W, owes (c : Thread nD τ) O W) ⊢ (dat V c).owesAt () t := by
  unfold Dat.owesAt Pipeline.owesWithin Dat.bound
  rw [h]
  iintro ⟨%W, H⟩
  iexists W
  isplitr; · ipureintro; exact fun _ _ => Or.inl trivial
  iexact H
theorem owes_out (c : Dev nD) (t : Fin (cfg0.N + 1)) (O : CellTallies nD τ sig Unit) (h : (dat V c).owed t = O) :
    (dat V c).owesAt () t ⊢ iprop(∃ W, owes (c : Thread nD τ) O W) := by
  unfold Dat.owesAt Pipeline.owesWithin
  rw [h]
  iintro ⟨%W, -, H⟩
  iexists W; iexact H

/-- The staged operands, found. -/
theorem staged (c : Dev nD) (t : Fin cfg0.N) :
    (bigSep Finset.univ fun w => iprop(∃ d, owns (c : Thread nD τ) ((cfg0.win w).stage (cfg0.slots t w)) fullShare ((dat V c).before w t d)))
      ⊢ (iprop((ins c (inX V c) (inK V c) (inV V c) ∗ ptWq c (inWq V c) ∗ ptWo c (inWo V c)) ∗ ∃ f : CO F, ptOut c f) : sProp 𝕄) := by
  rw [bigSep_W0]
  simp only [found0, found1, found2, found3, found4]
  unfold ins
  iintro ⟨⟨%_, H0⟩, ⟨%_, H1⟩, ⟨%_, H2⟩, ⟨%_, H3⟩, ⟨%_, H4⟩, ⟨%d, H5⟩⟩
  ihave H0 := (Entails.of_eq (stX c t (inX V c))) $$ H0
  ihave H1 := (Entails.of_eq (stWq c t (inWq V c))) $$ H1
  ihave H2 := (Entails.of_eq (stWo c t (inWo V c))) $$ H2
  ihave H3 := (Entails.of_eq (stK c t (inK V c))) $$ H3
  ihave H4 := (Entails.of_eq (stV c t (inV V c))) $$ H4
  ihave H5 := (Entails.of_eq (stOut c t ((dat V c).before 5 t d))) $$ H5
  isplitr [H5]
  · isplitl [H0 H3 H4]
    · isplitl [H0]; · iexact H0
      isplitl [H3]; · iexact H3
      iexact H4
    isplitl [H1]; · iexact H1
    iexact H2
  iexists _; iexact H5

/-- The staged operands and the result, left. -/
theorem unstaged (c : Dev nD) (t : Fin cfg0.N) :
    (iprop((ins c (inX V c) (inK V c) (inV V c) ∗ ptWq c (inWq V c) ∗ ptWo c (inWo V c)) ∗ ptOut c (result V c)) : sProp 𝕄)
      ⊢ bigSep Finset.univ fun w => owns (c : Thread nD τ) ((cfg0.win w).stage (cfg0.slots t w)) fullShare ((dat V c).after w t) := by
  rw [bigSep_W0]
  unfold ins
  iintro ⟨⟨⟨H0, H3, H4⟩, H1, H2⟩, H5⟩
  isplitl [H0]; · iapply (Entails.of_eq (stX c t (inX V c)).symm); iexact H0
  isplitl [H1]; · iapply (Entails.of_eq (stWq c t (inWq V c)).symm); iexact H1
  isplitl [H2]; · iapply (Entails.of_eq (stWo c t (inWo V c)).symm); iexact H2
  isplitl [H3]; · iapply (Entails.of_eq (stK c t (inK V c)).symm); iexact H3
  isplitl [H4]; · iapply (Entails.of_eq (stV c t (inV V c)).symm); iexact H4
  iapply (Entails.of_eq (stOut c t (result V c)).symm); iexact H5

theorem body (c : Dev nD) : BodyObligation (dat V c) defs₀ 𝒱₀ () Set.univ := fun t => by
  obtain rfl := fin_N0 t
  rw [body_at]
  rw [show t0_0.castSucc = (0 : Fin (cfg0.N + 1)) from rfl, show t0_0.succ = Fin.last cfg0.N from rfl]
  rw [phi_first, phi_last]
  unfold Opened
  iintro ⟨⟨⟨⟨%K, #HE⟩, HS⟩, HM, Hg⟩, HO, HW⟩
  ihave HO := (owes_out V c 0 (O₀ c) (owed_first V c)) $$ HO
  ihave HW := (staged V c t0_0) $$ HW
  icases HW with ⟨HW, Hout⟩
  iapply (device_spec c (fun d => progAt d))
  iapply (body_spec (allQ V) (allO V) K c (inX V c) (inK V c) (inV V c) (inWq V c) (inWo V c) (read_gatherQ _ c) (read_gatherO _ c))
  unfold Held
  isplitr; · iexact HE
  isplitl [HS]; · iexact HS
  isplitl [HM HW]
  · isplitl [HM]; · iexact HM
    iexact HW
  isplitl [Hout]; · iexact Hout
  isplitl [HO]; · iexact HO
  iintro ⟨HZ, ⟨HM, HW⟩, Hout, HO⟩
  ihave Hout := (out_known c _) $$ Hout
  isplitl [HZ HM Hg]
  · isplitl [HZ]; · iexact HZ
    isplitl [HM]; · iexact HM
    iexact Hg
  isplitl [HO]; · iapply (owes_in V c (Fin.last cfg0.N) 0 (owed_last V c)); iexact HO
  iapply (unstaged V c t0_0)
  isplitl [HW]; · iexact HW
  iexact Hout

end Cert.KernelIdeal.Fused

end
-- ==== Proof.Seg.lean ====
/- The kernel's region as a segment of @main, and its thread states over all the buffers. -/
module

public import proofs.«01_k».proof.Proof.Region

@[expose] public section

set_option maxRecDepth 8000

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F] [Named F]

local notation "𝕄" => MT nD τ sig Unit (Elt F) ℕ UU ℕ

variable (V : Dev nD → Valuation τ sig (Elt F))

/-- The data of @main's one region. -/
def pdats : (p : Fin 1) → (c : Dev nD) → Dat τ (Elt F) Unit ℕ UU ℕ (cfgs p) c
  | 0 => dat V

/-- The buffers after the region: the result written. -/
def leftAt (c : Dev nD) : Valuation τ sig (Elt F) := Function.update (V c) (Proc.devRef .tc main_v22) (result V c)

/-- The windows' arrays and the other buffers. -/
abbrev arrs : Finset (DevRef τ sig) := Pipeline.arrRefs (τ := τ) spec0
abbrev others : Finset (DevRef τ sig) := Pipeline.ucRefs τ sig \ arrs

theorem arrs_sub : arrs ⊆ Pipeline.ucRefs τ sig := by decide
theorem out_mem : Proc.devRef .tc main_v22 ∈ arrs := by decide

theorem left_ne (c : Dev nD) (b : DevRef τ sig) (h : b ≠ Proc.devRef .tc main_v22) : leftAt V c b = V c b := Function.update_of_ne h _ _
theorem left_out (c : Dev nD) : leftAt V c (Proc.devRef .tc main_v22) = result V c := Function.update_self _ _ _

theorem left_other (c : Dev nD) (b : DevRef τ sig) (h : b ∈ others) : leftAt V c b = V c b :=
  left_ne V c b fun e => (Finset.mem_sdiff.mp h).2 (by rw [e]; exact out_mem)

/-- The result's array ends at the result. -/
theorem out_whole : (cfg0.win 5).WholeAt t0_0 := by decide +kernel
theorem arr_out (c : Dev nD) : (dat V c).arrAt 5 cfg0.N = result V c :=
  (dat V c).arrAt_eq_of_after_last 5 t0_0 out_whole (result V c) (fun _ => rfl)

theorem in_arr (w : Fin 6) (h : w ≠ 5) : Pipeline.arrRef spec0 w ≠ main_v22 := by revert w; decide
theorem in_win (w : Fin 6) (h : w ≠ 5) : (cfg0.win w).isOut = false := by revert w; decide

theorem arr_left (c : Dev nD) (w : Fin cfg0.W) : (dat V c).arrAt w cfg0.N = leftAt V c (Proc.devRef .tc (Pipeline.arrRef spec0 w)) := by
  by_cases h : w = (5 : Fin 6)
  · subst h
    rw [arr_out]; exact (left_out V c).symm
  · rw [(dat V c).arrAt_in w (in_win w h), left_ne V c _ (StableHlo.devRef_ne_of_ne (in_arr w h))]
    rfl

/-- Everything owed lies above the staging waits. -/
theorem cut (c : Dev nD) (n : ℕ) (g : GSem nD τ sig) (i : Unit) (h : 0 < owedAt c n g i) : i ∈ L g ∧ (0 : ℕ) < lv g i := by
  unfold owedAt at h
  split at h
  · unfold O₀ at h
    have hb : ∀ k, 0 < btal c k g i → i ∈ L g ∧ (0 : ℕ) < lv g i := fun k hk => by
      obtain rfl := tally_pos hk
      exact ⟨by rw [L_tc]; exact Finset.mem_singleton_self _, Nat.one_pos⟩
    have lvl_pos : ∀ s, 0 < lvl s := by decide
    rcases add_pos' h with h | h
    · rcases add_pos' h with h | h
      · rcases add_pos' h with h | h
        · rcases add_pos' h with h | h
          · rcases add_pos' h with h | h
            · obtain ⟨s, -, k, hk, rfl⟩ := owe_pos h
              exact ⟨by rw [L_tc]; exact Finset.mem_singleton_self _, by rw [lv_recv _ s k hk]; exact lvl_pos s⟩
            · exact hb 4 h
          · exact hb 3 h
        · exact hb 2 h
      · exact hb 1 h
    · exact hb 0 h
  · exact absurd h (Nat.lt_irrefl 0)

theorem stage_lv : ∀ (w : Fin cfg0.W) (s : Fin (cfg0.win w).nbuf), semLv (.dma ((cfg0.win w).sem s)) ≤ 0 := by decide +kernel

/-- The invariant's two ends. -/
theorem enters (c : Dev nD) : iprop(Pipeline.scopedRest spec0 c ∗ (∃ r, prngReg c r) ∗ StableHlo.held (c.tc : Thread nD τ) ∅ (V c) ∗ Opened (allQ V) (allO V) c)
    ⊢ (dat V c).Φ 0 := by
  rw [phi_first, scopedRest0_eq]
  unfold Scr reg
  iintro ⟨⟨H0, H1, H2⟩, Hg, -, HO⟩
  isplitl [HO]; · iexact HO
  isplitl [H0 H1 H2]
  · isplitl [H0 H1]
    · isplitl [H0]; · iexact H0
      iexact H1
    iexact H2
  iexact Hg
theorem ends (c : Dev nD) : (dat V c).Φ (Fin.last cfg0.N)
    ⊢ iprop(Pipeline.scopedRest spec0 c ∗ (∃ r, prngReg c r) ∗ StableHlo.held (c.tc : Thread nD τ) ∅ (leftAt V c) ∗ Pipeline.ownSems0 legSem c ∗ semVal (barCell c) 0) := by
  rw [phi_last, scopedRest0_eq]
  unfold Scr reg StableHlo.held
  rw [BI.bigSep_empty]
  iintro ⟨HZ, ⟨⟨H0, H1⟩, H2⟩, Hg⟩
  ihave HZ := (closed_own c) $$ HZ
  isplitl [H0 H1 H2]
  · isplitl [H0]; · iexact H0
    isplitl [H1]; · iexact H1
    iexact H2
  isplitl [Hg]; · iexact Hg
  isplitr; · iempintro
  iexact HZ

set_option backward.isDefEq.respectTransparency.types false in
/-- The region. -/
def R0 : Pipeline.RegionSeg (pcfgs (F := F)) adm (pdats V) () defs₀ 𝒱₀ L lv 0 :=
  Pipeline.RegionSeg.ofTalk (pcfgs (F := F)) adm (pdats V) () defs₀ 𝒱₀ L lv 0 legSem legFacts
    ∅ others (Finset.empty_subset _) launch0.toP rfl (fun c => (body V c).loose)
    (fun _ => 0) O₀ (fun c => (owed_first V c).trans (zero_add _).symm) (fun c => owed_last V c) (fun _ => rfl)
    (fun c w => (dat V c).share_full (fun _ => rfl) w)
    V (leftAt V) (fun c b hb => left_other V c b (Finset.mem_sdiff.mp hb).1)
    (fun c => iprop(∃ K, Kept (allQ V) (allO V) K c)) (fun c => semVal (barCell c) 0) (fun c => Opened (allQ V) (allO V) c) (fun c => semVal (barCell c) 0)
    (fun c => opens (allQ V) (allO V) c) (fun c => enters V c) (fun c => ends V c)
    (fun c => by iintro H; imodintro; iexact H)
    (fun _ => 0)
    ⟨fun c w s => by rw [L_tc]; exact Finset.mem_singleton_self _, fun _ w s => stage_lv w s, fun c t g i h => cut c t.val g i h⟩
    (fun _ => iprop(emp))
    (fun _ _ => rfl) (fun c w => arr_left V c w)

/-- What rides beside the buffers: to the region and after it. -/
def ride : Fin 2 → Dev nD → sProp 𝕄
  | 0, c => iprop((∃ K, Kept (allQ V) (allO V) K c) ∗ (∃ r, prngReg c r) ∗ ∃ W, owes (c : Thread nD τ) (O₀ c) W)
  | 1, c => iprop(semVal (barCell c) 0 ∗ ∃ W, owes (c : Thread nD τ) 0 W)

set_option backward.isDefEq.respectTransparency.types false in
theorem R0_pre (c : Dev nD) : iprop(StableHlo.held (c : Thread nD τ) (Pipeline.ucRefs τ sig) (V c) ∗ ride V 0 c) ⊢ (R0 V).pre c := by
  show _ ⊢ iprop(StableHlo.held (c.tc : Thread nD τ) arrs (V c) ∗ (∃ r, prngReg c r)
    ∗ (StableHlo.held (c.tc : Thread nD τ) others (V c) ∗ emp) ∗ (∃ K, Kept (allQ V) (allO V) K c) ∗ ∃ Wd, owes (c : Thread nD τ) (0 + O₀ c) Wd)
  rw [StableHlo.held_sub_split _ arrs_sub, zero_add]
  unfold ride
  iintro ⟨⟨Ha, Hr⟩, HK, Hg, HO⟩
  isplitl [Ha]; · iexact Ha
  isplitl [Hg]; · iexact Hg
  isplitl [Hr]
  · isplitl [Hr]; · iexact Hr
    iempintro
  isplitl [HK]; · iexact HK
  iexact HO

set_option backward.isDefEq.respectTransparency.types false in
theorem R0_post (c : Dev nD) : (R0 V).post c ⊢ iprop(StableHlo.held (c : Thread nD τ) (Pipeline.ucRefs τ sig) (leftAt V c) ∗ ride V 1 c) := by
  show iprop(StableHlo.held (c.tc : Thread nD τ) arrs (leftAt V c) ∗ (∃ r, prngReg c r)
    ∗ (StableHlo.held (c.tc : Thread nD τ) others (leftAt V c) ∗ emp) ∗ semVal (barCell c) 0 ∗ ∃ Wd, owes (c : Thread nD τ) 0 Wd) ⊢ _
  rw [StableHlo.held_sub_split (S := Pipeline.ucRefs τ sig) _ arrs_sub]
  unfold ride
  iintro ⟨Ha, -, ⟨Hr, -⟩, Hb, HO⟩
  isplitl [Ha Hr]
  · isplitl [Ha]; · iexact Ha
    iexact Hr
  isplitl [Hb]; · iexact Hb
  iexact HO

end Cert.KernelIdeal.Fused

end
-- ==== Proof.Fund.lean ====
/- The launch's ghost state: every cell's record, the barrier's opened and the legs' dormant, every duty's token in the hands of the
   device that pays it, and the credit of what each device is owed. -/
module

public import proofs.«01_k».proof.Proof.Seg

@[expose] public section

set_option maxRecDepth 8000

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ UU ℕ

variable (WQ : BQ F) (WO : BO F)

/-! ## The cells and the tokens -/

/-- The device a leg's duty is paid at by `c`: its own for a sent one, the target for a received one. -/
def payAt (c : Dev nD) (s : Fin 15) (k : Fin 4) : Dev nD := ![c, tgt c s, c, tgt c s] k

theorem payAt_inj {c c' : Dev nD} (s : Fin 15) (k : Fin 4) (h : payAt c s k = payAt c' s k) : c = c' := by
  revert c c' s k; decide +kernel
theorem peer_inj {c c' : Dev nD} (k : Fin 5) (h : peer c k = peer c' k) : c = c' := by revert c c' k; decide +kernel
/-- The device whose `k`-th signal reaches `c`. -/
theorem peer_onto (c : Dev nD) (k : Fin 5) : ∃ d, peer d k = c := by revert c k; decide +kernel

theorem barCell_inj {c c' : Dev nD} (h : barCell c = barCell c') : c = c' := congrArg (fun g : GSem nD τ sig => g.1.1) h

def barAll : Finset (GSem nD τ sig) := Finset.univ.image barCell
def legAll : Finset (GSem nD τ sig) := Finset.univ.image fun p : Dev nD × Fin 15 × Fin 4 => cell p.1 p.2.1 p.2.2
def barTok (p : Dev nD × Fin 5) : GSem nD τ sig × ℕ × Fin 5 := (barCell (peer p.1 p.2), 0, p.2)
def legTok (p : Dev nD × Fin 15 × Fin 4) : GSem nD τ sig × ℕ × Fin 5 := (cell (payAt p.1 p.2.1 p.2.2) p.2.1 p.2.2, 0, 0)
def barToks : Finset (GSem nD τ sig × ℕ × Fin 5) := Finset.univ.image barTok
def legToks : Finset (GSem nD τ sig × ℕ × Fin 5) := Finset.univ.image legTok
/-- Every duty's token. -/
def allToks : Finset (GSem nD τ sig × ℕ × Fin 5) := barToks ∪ legToks

theorem bar_ne_cell (c d : Dev nD) (s : Fin 15) (k : Fin 4) : barCell c ≠ cell d s k := fun h => by
  have := congrArg Prod.snd h; cases this

theorem leg_inj (p q : Dev nD × Fin 15 × Fin 4) (h : cell p.1 p.2.1 p.2.2 = cell q.1 q.2.1 q.2.2) : p = q := by
  obtain ⟨h1, h2, h3⟩ := cell_inj h
  exact Prod.ext h1 (Prod.ext h2 h3)
theorem barTok_inj (p q : Dev nD × Fin 5) (h : barTok p = barTok q) : p = q := by
  obtain ⟨c, k⟩ := p
  obtain ⟨c', k'⟩ := q
  obtain rfl : k = k' := congrArg (fun x : GSem nD τ sig × ℕ × Fin 5 => x.2.2) h
  obtain rfl : c = c' := peer_inj k (barCell_inj (congrArg Prod.fst h))
  rfl
theorem legTok_inj (p q : Dev nD × Fin 15 × Fin 4) (h : legTok p = legTok q) : p = q := by
  obtain ⟨c, s, k⟩ := p
  obtain ⟨c', s', k'⟩ := q
  obtain ⟨h1, rfl, rfl⟩ := cell_inj (congrArg Prod.fst h)
  obtain rfl : c = c' := payAt_inj _ _ h1
  rfl

theorem cells_disjoint : Disjoint barAll legAll := by
  rw [Finset.disjoint_left]
  rintro g h₁ h₂
  obtain ⟨c, -, rfl⟩ := Finset.mem_image.mp h₁
  obtain ⟨p, -, h⟩ := Finset.mem_image.mp h₂
  exact bar_ne_cell c _ _ _ h.symm
theorem toks_disjoint : Disjoint barToks legToks := by
  rw [Finset.disjoint_left]
  rintro g h₁ h₂
  obtain ⟨c, -, rfl⟩ := Finset.mem_image.mp h₁
  obtain ⟨p, -, h⟩ := Finset.mem_image.mp h₂
  exact bar_ne_cell _ _ _ _ (congrArg Prod.fst h).symm

theorem over_bar (Φ : GSem nD τ sig → sProp 𝕄) : bigSep barAll Φ = bigSep Finset.univ fun c : Dev nD => Φ (barCell c) :=
  big_image (fun _ _ _ _ h => barCell_inj h) Φ
theorem over_leg (Φ : GSem nD τ sig → sProp 𝕄) :
    bigSep legAll Φ = bigSep Finset.univ fun c : Dev nD => bigSep Finset.univ fun p : Fin 15 × Fin 4 => Φ (cell c p.1 p.2) := by
  rw [show bigSep legAll Φ = _ from big_image (fun p _ q _ h => leg_inj p q h) Φ, bigSep_univ_prod]

theorem fin4 (Φ : Fin 4 → sProp 𝕄) : bigSep Finset.univ Φ = iprop(Φ 0 ∗ Φ 1 ∗ Φ 2 ∗ Φ 3) := by
  rw [show (Finset.univ : Finset (Fin 4)) = insert 0 (insert 1 (insert 2 {3})) by decide,
    big_insert (by decide), big_insert (by decide), big_insert (by decide), bigSep_singleton]

/-- The tokens, by the device that pays. -/
theorem over_toks : (bigSep allToks fun x => dutyTok ER x.1 x.2.1 x.2.2 : sProp 𝕄)
    = iprop((bigSep Finset.univ fun c : Dev nD => bigSep Finset.univ fun k : Fin 5 => dutyTok ER (barCell (peer c k)) 0 k)
      ∗ bigSep Finset.univ fun c : Dev nD => bigSep Finset.univ fun s : Fin 15 => sendDuty (F := F) c s) := by
  unfold allToks
  rw [big_union toks_disjoint]
  refine congrArg₂ _ ?_ ?_
  · rw [show (bigSep barToks fun x => dutyTok ER x.1 x.2.1 x.2.2 : sProp 𝕄) = _ from big_image (fun p _ q _ h => barTok_inj p q h) _, bigSep_univ_prod]
    rfl
  · rw [show (bigSep legToks fun x => dutyTok ER x.1 x.2.1 x.2.2 : sProp 𝕄) = _ from big_image (fun p _ q _ h => legTok_inj p q h) _, bigSep_univ_prod]
    refine congrArg _ (funext fun c => ?_)
    rw [bigSep_univ_prod]
    refine congrArg _ (funext fun s => ?_)
    rw [fin4]
    rfl

/-! ## The launch credit -/

/-- Units dealt out so that just one device's reach a cell. -/
theorem sum_one (f : Dev nD → GSem nD τ sig) (g : GSem nD τ sig) (n : ℕ) (d₀ : Dev nD) (h : ∀ d, f d = g ↔ d = d₀) :
    ∑ d : Dev nD, (tallyAt (f d) () n : CellTallies nD τ sig Unit) g () = n := by
  rw [Finset.sum_eq_single d₀]
  · rw [tallyAt_apply, if_pos ⟨((h d₀).mpr rfl).symm, rfl⟩]
  · intro d _ hd
    rw [tallyAt_apply, if_neg fun e => hd ((h d).mp e.1.symm)]
  · exact fun h => absurd (Finset.mem_univ _) h
/-- Units none of which reach a cell. -/
theorem sum_none (f : Dev nD → GSem nD τ sig) (g : GSem nD τ sig) (n : ℕ) (h : ∀ d, f d ≠ g) :
    ∑ d : Dev nD, (tallyAt (f d) () n : CellTallies nD τ sig Unit) g () = 0 :=
  Finset.sum_eq_zero fun d _ => by rw [tallyAt_apply, if_neg fun e => h d e.1.symm]

theorem sum_owed (g : GSem nD τ sig) : ∑ d : Dev nD, O₀ d g () =
    (∑ s : Fin 15, ((∑ d : Dev nD, (tallyAt (cell (tgt d s) s 3) () N7 : CellTallies nD τ sig Unit) g ())
      + ∑ d : Dev nD, (tallyAt (cell (tgt d s) s 1) () N6 : CellTallies nD τ sig Unit) g ()))
    + ∑ k : Fin 5, ∑ d : Dev nD, (btal d k) g () := by
  rw [Fin.sum_univ_five]
  have e : ∀ d : Dev nD, O₀ d g () = (∑ s : Fin 15, ((tallyAt (cell (tgt d s) s 3) () N7 : CellTallies nD τ sig Unit) g ()
      + (tallyAt (cell (tgt d s) s 1) () N6 : CellTallies nD τ sig Unit) g ()))
      + ((btal d 0) g () + (btal d 1) g () + (btal d 2) g () + (btal d 3) g () + (btal d 4) g ()) := fun d => by
    unfold O₀ owe
    simp only [Pi.add_apply, Finsupp.add_apply, hi_zero, Finset.sum_apply, Finsupp.finset_sum_apply, rtal]
    ring
  rw [Finset.sum_congr rfl fun d _ => e d]
  simp only [Finset.sum_add_distrib]
  rw [Finset.sum_comm (f := fun d s => (tallyAt (cell (tgt d s) s 3) () N7 : CellTallies nD τ sig Unit) g ()),
    Finset.sum_comm (f := fun d s => (tallyAt (cell (tgt d s) s 1) () N6 : CellTallies nD τ sig Unit) g ())]

theorem owed_bar (c : Dev nD) : ∑ d : Dev nD, O₀ d (barCell c) () = 5 := by
  have e : ∀ k : Fin 5, ∑ d : Dev nD, (btal d k) (barCell c) () = 1 := fun k => by
    obtain ⟨d₀, h⟩ := peer_onto c k
    exact sum_one (fun d => barCell (peer d k)) (barCell c) 1 d₀ fun d =>
      ⟨fun e => peer_inj k ((barCell_inj e).trans h.symm), fun e => by rw [e, h]⟩
  rw [sum_owed, Finset.sum_eq_zero fun s _ => ?_, Finset.sum_congr rfl fun k _ => e k]
  · rfl
  · rw [sum_none (fun d => cell (tgt d s) s 3) _ _ fun d e => bar_ne_cell _ _ _ _ e.symm,
      sum_none (fun d => cell (tgt d s) s 1) _ _ fun d e => bar_ne_cell _ _ _ _ e.symm, add_zero]

theorem tgt_iff (c : Dev nD) (s : Fin 15) (k : Fin 4) (d : Dev nD) : cell (tgt d s) s k = cell c s k ↔ d = src c s :=
  ⟨fun e => by rw [← (cell_inj e).1, src_tgt], fun e => by rw [e, tgt_src]⟩

theorem owed_query (c : Dev nD) (s : Fin 15) : ∑ d : Dev nD, O₀ d (cell c s 1) () = N6 := by
  rw [sum_owed, Finset.sum_eq_single (f := fun k : Fin 5 => ∑ d : Dev nD, (btal d k) (cell c s 1) ()) 0
      (fun k _ _ => sum_none (fun d => barCell (peer d k)) _ _ fun d => bar_ne_cell _ _ _ _) (fun h => absurd (Finset.mem_univ _) h),
    sum_none (fun d => barCell (peer d 0)) _ _ (fun d => bar_ne_cell _ _ _ _), add_zero, Finset.sum_eq_single s]
  · rw [sum_none (fun d => cell (tgt d s) s 3) _ _ fun d e => absurd (cell_inj e).2.2 (by decide), zero_add]
    exact sum_one (fun d => cell (tgt d s) s 1) _ _ (src c s) (tgt_iff c s 1)
  · intro s' _ hs
    rw [sum_none (fun d => cell (tgt d s') s' 3) _ _ fun d e => hs (cell_inj e).2.1,
      sum_none (fun d => cell (tgt d s') s' 1) _ _ fun d e => hs (cell_inj e).2.1, add_zero]
  · exact fun h => absurd (Finset.mem_univ _) h

theorem owed_out (c : Dev nD) (s : Fin 15) : ∑ d : Dev nD, O₀ d (cell c s 3) () = N7 := by
  rw [sum_owed, Finset.sum_eq_single (f := fun k : Fin 5 => ∑ d : Dev nD, (btal d k) (cell c s 3) ()) 0
      (fun k _ _ => sum_none (fun d => barCell (peer d k)) _ _ fun d => bar_ne_cell _ _ _ _) (fun h => absurd (Finset.mem_univ _) h),
    sum_none (fun d => barCell (peer d 0)) _ _ (fun d => bar_ne_cell _ _ _ _), add_zero, Finset.sum_eq_single s]
  · rw [sum_none (fun d => cell (tgt d s) s 1) _ _ fun d e => absurd (cell_inj e).2.2 (by decide), add_zero]
    exact sum_one (fun d => cell (tgt d s) s 3) _ _ (src c s) (tgt_iff c s 3)
  · intro s' _ hs
    rw [sum_none (fun d => cell (tgt d s') s' 3) _ _ fun d e => hs (cell_inj e).2.1,
      sum_none (fun d => cell (tgt d s') s' 1) _ _ fun d e => hs (cell_inj e).2.1, add_zero]
  · exact fun h => absurd (Finset.mem_univ _) h

/-- A cell's launch credit from what all devices owe it. -/
theorem credit_of (g : GSem nD τ sig) (n : ℕ) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

/-- The semaphores credit is kept of. -/
def credSem (p : Fin 15 × Fin 2) : SemLoc sig := .dma (slotSem p.1 (![1, 3] p.2))
theorem credSem_inj (p q : Fin 15 × Fin 2) (h : credSem p = credSem q) : p = q := by
  obtain ⟨h1, h2⟩ := slotSem_inj (SemLoc.dma.inj h)
  exact Prod.ext h1 (by revert h2; generalize p.2 = a; generalize q.2 = b; revert a b; decide)
theorem credSem_ne : (SemLoc.reg barS : SemLoc sig) ∉ (Finset.univ : Finset (Fin 15 × Fin 2)).image credSem := fun h => by
  obtain ⟨p, -, e⟩ := Finset.mem_image.mp h
  cases e

theorem creds (c : Dev nD) : (Pipeline.launchCred O₀ c : sProp 𝕄)
    ⊢ iprop(cred (tallyAt (barCell c) () 5) ∗ bigSep Finset.univ fun s : Fin 15 => recvCred (F := F) c s) := by
  unfold Pipeline.launchCred
  rw [big_sdiff (Finset.subset_univ (insert (SemLoc.reg barS) ((Finset.univ : Finset (Fin 15 × Fin 2)).image credSem))),
    big_insert credSem_ne, credit_of _ 5 (owed_bar c), big_image (fun p _ q _ h => credSem_inj p q h), bigSep_univ_prod]
  iintro ⟨⟨Hb, Hl⟩, -⟩
  isplitl [Hb]; · iexact Hb
  iapply (big_mono (s := Finset.univ) fun s _ => by
    rw [BI.bigSep_fin_two]
    unfold recvCred
    refine Entails.of_eq (congrArg₂ _ ?_ ?_)
    · exact congrArg cred (credit_of (cell c s 1) N6 (owed_query c s))
    · exact congrArg cred (credit_of (cell c s 3) N7 (owed_out c s))) $$ Hl

end Cert.KernelIdeal.Fused

end
-- ==== Proof.Launch.lean ====
/- @main run from any memory with zero counters: every device ends with its arguments unchanged, its result written and every
   semaphore at zero. -/
module

public import proofs.«01_k».proof.Proof.Fund

@[expose] public section

set_option maxRecDepth 8000

noncomputable section

namespace Cert.KernelIdeal.Fused

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F] [Named F]

local notation "𝕄" => MT nD τ sig Unit (Elt F) ℕ UU ℕ

variable (m : (ℓ : Loc nD τ sig) → Buf (Elt F) ℓ) (ρ : Dev nD → PrngReg)

/-- The buffers before the region. -/
abbrev Vin (m : (ℓ : Loc nD τ sig) → Buf (Elt F) ℓ) (c : Dev nD) : Valuation τ sig (Elt F) := V1 m c

/-- The protocol's launch element. -/
def seed : Rounds.URounds (GSem nD τ sig) (Fin 5) := launchOf barAll legAll allToks
/-- The launch element: the staging's and the protocol's. -/
def u₀ : UU :=
  (initOf (Pipeline.cells (Pipeline.pin (pcfgs (F := F)) adm) cellOf_inj) (Pipeline.launchToks (Pipeline.pin (pcfgs (F := F)) adm) cellOf_inj), seed)

/-- The whole protocol element lies with device 0 until it is shared out. -/
def G (c : Dev nD) : sProp 𝕄 := if c = 0 then BI.own (ER seed) else iprop(emp)
theorem over_G : bigSep Finset.univ (G (F := F)) = BI.own (ER seed) := by
  rw [big_erase (Finset.mem_univ (0 : Dev nD)), bigSep_congr (s := Finset.univ.erase (0 : Dev nD)) (Ψ := fun _ => (BI.emp : sProp 𝕄))
      fun c hc => by unfold G; rw [if_neg (Finset.ne_of_mem_erase hc)]; rfl, BI.bigSep_emp_const]
  unfold G
  rw [if_pos rfl]
  exact BI.equiv_iff.mp sep_emp

theorem only_bar : ∀ sm : SemLoc sig, sm.isScoped .tc = false → sm = .reg barS := by decide +kernel
theorem bar_only : ∀ sm : SemLoc sig, sm.isScoped .tc = false ↔ sm = .reg barS := by decide +kernel

theorem bar_zero (c : Dev nD) : (unscopedSems0 c : sProp 𝕄) = semVal (barCell c) 0 := by
  unfold unscopedSems0
  rw [show (Finset.univ.filter fun sm : SemLoc sig => ¬ sm.isScoped .tc = true) = {.reg barS} from by
    ext sm; rw [Finset.mem_filter, Finset.mem_singleton]; exact ⟨fun h => (bar_only sm).mp (Bool.eq_false_iff.mpr h.2), fun h => ⟨Finset.mem_univ _, Bool.eq_false_iff.mp ((bar_only sm).mpr h)⟩⟩,
    bigSep_singleton]

/-- What of a device's holdings is not the protocol's. -/
def Own (c : Dev nD) : sProp 𝕄 :=
  iprop(StableHlo.held (c : Thread nD τ) (Pipeline.ucRefs τ sig) (V0 m c) ∗ (cred (tallyAt (barCell c) () 5) ∗ bigSep Finset.univ fun s : Fin 15 => recvCred (F := F) c s)
    ∗ (∃ r, prngReg c r) ∗ owes (c : Thread nD τ) (O₀ c) ∅)

/-- What of the protocol's is one device's alone. -/
def Mine (c : Dev nD) : sProp 𝕄 :=
  iprop(atPos ER (barCell c) 0 ∅ 0 ∗ (bigSep Finset.univ fun p : Fin 15 × Fin 4 => openTok ER (cell c p.1 p.2))
    ∗ (bigSep Finset.univ fun k : Fin 5 => dutyTok ER (barCell (peer c k)) 0 k) ∗ bigSep Finset.univ fun s : Fin 15 => sendDuty (F := F) c s)

/-- What every device may use. -/
def All (WQ : BQ F) (WO : BO F) (K : GSem nD τ sig → ℕ) : sProp 𝕄 :=
  iprop(recs WQ WO K ∗ bigSep Finset.univ fun d : Dev nD => reached ER (barCell d) 0)
instance All_persistent (WQ : BQ F) (WO : BO F) (K : GSem nD τ sig → ℕ) : BI.Persistent (All WQ WO K) := by unfold All; infer_instance

/-- A device's state at the start of @main and at its end. -/
def T₀ (c : Dev nD) : sProp 𝕄 := iprop(StableHlo.held (c : Thread nD τ) (Pipeline.ucRefs τ sig) (V0 m c) ∗ ride (Vin m) 0 c)
def Tₙ (c : Dev nD) : sProp 𝕄 := iprop(StableHlo.held (c : Thread nD τ) (Pipeline.ucRefs τ sig) (leftAt (Vin m) c) ∗ semVal (barCell c) 0)

theorem start_one (K : GSem nD τ sig → ℕ) (c : Dev nD) :
    iprop(All (allQ (Vin m)) (allO (Vin m)) K ∗ (Mine (F := F) c ∗ Own m c)) ⊢ T₀ m c := by
  unfold All Mine Own T₀ ride Kept
  iintro ⟨⟨#HR, #Hb⟩, ⟨Ha, Ho, Ht, Hd⟩, Hh, ⟨Hc, Hr⟩, Hp, HO⟩
  isplitl [Hh]; · iexact Hh
  isplitl [Ha Ho Ht Hd Hc Hr]
  · iexists K
    isplitr; · iexact HR
    isplitr; · iexact Hb
    isplitl [Ha]; · iexact Ha
    isplitl [Ho]; · iexact Ho
    isplitl [Ht]; · iexact Ht
    isplitl [Hc]; · iexact Hc
    isplitl [Hd]; · iexact Hd
    iexact Hr
  isplitl [Hp]; · iexact Hp
  iexists ∅
  iexact HO

theorem over_leg' (Φ : GSem nD τ sig → sProp 𝕄) :
    bigSep legAll Φ = bigSep Finset.univ fun p : Dev nD × Fin 15 × Fin 4 => Φ (cell p.1 p.2.1 p.2.2) :=
  big_image (fun p _ q _ h => leg_inj p q h) Φ

/-- The cells' invariants, regrouped. -/
theorem over_inv (WQ : BQ F) (WO : BO F) (K : GSem nD τ sig → ℕ) :
    (bigSep (barAll ∪ legAll) fun g => cellInv ER (Rd WQ WO) (K g) g : sProp 𝕄) = recs WQ WO K := by
  have key : ∀ Φ : GSem nD τ sig → sProp 𝕄, bigSep (barAll ∪ legAll) Φ = iprop((bigSep Finset.univ fun c : Dev nD => Φ (barCell c))
      ∗ bigSep Finset.univ fun p : Dev nD × Fin 15 × Fin 4 => Φ (cell p.1 p.2.1 p.2.2)) := fun Φ => by
    rw [big_union cells_disjoint, over_bar, over_leg']
  unfold recs
  exact key fun g => cellInv ER (Rd WQ WO) (K g) g

/-- The products of what is one device's alone. -/
theorem over_mine : iprop((bigSep Finset.univ fun c : Dev nD => atPos ER (barCell c) 0 ∅ 0)
      ∗ (bigSep Finset.univ fun c : Dev nD => bigSep Finset.univ fun p : Fin 15 × Fin 4 => openTok ER (cell c p.1 p.2))
      ∗ (bigSep Finset.univ fun c : Dev nD => bigSep Finset.univ fun k : Fin 5 => dutyTok ER (barCell (peer c k)) 0 k)
      ∗ bigSep Finset.univ fun c : Dev nD => bigSep Finset.univ fun s : Fin 15 => sendDuty (F := F) c s)
    = (bigSep Finset.univ fun c : Dev nD => Mine (F := F) c : sProp 𝕄) := by
  unfold Mine
  rw [big_sep, big_sep, big_sep]

/-- Every cell funded, and the protocol's shares dealt out. -/
theorem funded (WQ : BQ F) (WO : BO F) :
    iprop((bigSep Finset.univ fun c : Dev nD => semVal (barCell c) 0) ∗ BI.own (ER seed))
      ⊢ (|={Set.univ}=> ∃ K, iprop(All WQ WO K ∗ bigSep Finset.univ fun c : Dev nD => Mine (F := F) c) : sProp 𝕄) := by
  rw [← over_bar fun g => (semVal g 0 : sProp 𝕄)]
  refine (Rounds.fund_launch ER (Rd WQ WO) cells_disjoint (fun g _ h => h) allToks).trans (fupd_mono ?_)
  iintro ⟨%κ, -, Hinv, Hr, Hat, Hopen, Htok⟩
  ihave Hinv := (Entails.of_eq (over_inv WQ WO κ)) $$ Hinv
  ihave Hr := (Entails.of_eq (over_bar fun g => (reached ER g 0 : sProp 𝕄))) $$ Hr
  ihave Hat := (Entails.of_eq (over_bar fun g => (atPos ER g 0 ∅ 0 : sProp 𝕄))) $$ Hat
  ihave Hopen := (Entails.of_eq (over_leg fun g => (openTok ER g : sProp 𝕄))) $$ Hopen
  ihave Htok := (Entails.of_eq (over_toks (F := F))) $$ Htok
  icases Htok with ⟨Ht, Hd⟩
  iexists κ
  unfold All
  isplitl [Hinv Hr]
  · isplitl [Hinv]; · iexact Hinv
    iexact Hr
  iapply (Entails.of_eq (over_mine (F := F)))
  isplitl [Hat]; · iexact Hat
  isplitl [Hopen]; · iexact Hopen
  isplitl [Ht]; · iexact Ht
  iexact Hd

/-- The buffers at the launch, as the run holds them. -/
theorem bufs_held (c : Dev nD) : (unscopedBufs c (fun b => m ((c.tc : Thread nD τ).loc b)) : sProp 𝕄)
    = StableHlo.held (c : Thread nD τ) (Pipeline.ucRefs τ sig) (V0 m c) := by
  rw [← Pipeline.unscopedBufs_held (Ix := Unit) (Name := ℕ) (U := UU) (Lvl := ℕ) c (V0 m c)]

/-- One device's holdings at the launch. -/
theorem own_intro (c : Dev nD) :
    iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)
      ⊢ (iprop(Own m c ∗ (semVal (barCell c) 0 ∗ G c)) : sProp 𝕄) := by
  rw [bufs_held, bar_zero]
  unfold Own
  iintro ⟨Hh, Hv, HO, Hc, Hp, HG⟩
  ihave Hc := (creds c) $$ Hc
  isplitl [Hh HO Hc Hp]
  · isplitl [Hh]; · iexact Hh
    isplitl [Hc]; · iexact Hc
    isplitl [Hp]; · iexists (ρ c); iexact Hp
    iexact HO
  isplitl [Hv]; · iexact Hv
  iexact HG

/-- All devices' holdings, the protocol's share apart. -/
theorem all_own :
    (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c))
      ⊢ (iprop((bigSep Finset.univ fun c : Dev nD => Own m c) ∗ (bigSep Finset.univ fun c : Dev nD => semVal (barCell c) 0) ∗ BI.own (ER seed)) : sProp 𝕄) := by
  rw [← over_G, ← big_sep, ← big_sep]
  exact big_mono fun c _ => own_intro m ρ c

/-- The launch: every cell funded and everything shared out. -/
theorem starts :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H := (all_own m ρ) $$ H
  icases H with ⟨HB, H⟩
  imod (funded (allQ (Vin m)) (allO (Vin m))) $$ H with ⟨%κ, #HA, HM⟩
  imodintro
  iapply (bigSep_with_persistent (S := Finset.univ) (R := All (allQ (Vin m)) (allO (Vin m)) κ) (Φ := fun c : Dev nD => iprop(Mine (F := F) c ∗ Own m c))
    (Ψ := T₀ m) fun c _ => start_one m κ c)
  isplitr; · iexact HA
  iapply (Entails.of_eq (big_sep Finset.univ (fun c : Dev nD => Mine (F := F) c) fun c => Own m c).symm)
  isplitl [HM]; · iexact HM
  iexact HB

/-- The launch element splits into the staging's and the protocol's. -/
theorem seeded : (ownU (u₀ (F := F)) : sProp 𝕄)
    ⊢ |={Set.univ}=> iprop(BI.own (EP (initOf (Pipeline.cells (Pipeline.pin (pcfgs (F := F)) adm) cellOf_inj) (Pipeline.launchToks (Pipeline.pin (pcfgs (F := F)) adm) cellOf_inj)))
        ∗ bigSep Finset.univ (G (F := F))) := by
  rw [over_G]
  unfold u₀
  iintro H
  ihave H := (ownU_pair _ _) $$ H
  imodintro
  iexact H

/-- What a final memory holds on one device. -/
def Final (c : Dev nD) (s : MemSt nD τ sig (Elt F)) : Prop :=
  (∀ b ∈ Pipeline.ucRefs τ sig, s.mem ((c : Thread nD τ).1, b) = leftAt (Vin m) c b) ∧ s.sem (barCell c) = 0

/-- A device's last state tells the final memory. -/
theorem reads (c : Dev nD) (s' : Phys nD τ sig (Elt F)) :
    iprop(Tₙ m c ∗ SI s') ⊢ (|={Set.univ}=> iprop(⌜Final m c s'.mem⌝ ∗ SI s') : sProp 𝕄) := by
  unfold Tₙ StableHlo.held
  iintro ⟨⟨Hh, Hb⟩, HSI⟩
  icombine HSI Hb gives %hb
  ihave Hr := (pointsTo_read_all (Pipeline.ucRefs τ sig) (fun b => ((c : Thread nD τ).1, b)) (leftAt (Vin m) c) s') $$ [Hh HSI]
  · isplitl [Hh] <;> iassumption
  icases Hr with ⟨%h, HSI⟩
  imodintro
  isplitr
  · ipureintro
    exact ⟨h, by simpa using hb⟩
  iexact HSI

/-- @main as a list of segments. -/
abbrev listed (c : Dev nD) := segs m 𝒱₀ L lv (ride (Vin m)) () (pdats (Vin m)) (R0 (Vin m)) c

set_option backward.isDefEq.respectTransparency.types false in
theorem run_final : θ_run defs (onTc (τ := τ) (main (F := F))) ⟨m, fun _ => 0, ρ⟩
    (fun r => (∀ c : Dev nD, Final m c r.2) ∧ r.2.sem = fun _ => 0) :=
  Pipeline.θ_run_regions_kit_dev_sems (pcfgs (F := F)) adm (pdats (Vin m)) () cellOf_inj EP defs₀ 𝒱₀ L lv m ρ main (listed m)
    (fun c Q => by
      rewrite [main_chain c, Seg.run_eq_chain,
        show (listed m c).map Seg.prog = [StableHlo.seq (hostOps0 c), Prog.lift (.customCall (Pipeline.entry 0) ())] from rfl]
      dsimp (config := { failIfUnchanged := false }) only
      exact .rfl)
    (fun c => by simp only [listed, segs, Seg.pipes_host, Seg.pipes_region, Seg.pipes_nil]; decide) O₀ L_of_ne G u₀ seeded
    (T₀ m) (Tₙ m)
    (hch := fun c => ⟨.rfl, R0_pre (Vin m) c, (R0_post (Vin m) c).trans (by
      unfold ride Tₙ
      iintro ⟨Hh, Hb, HO⟩
      isplitr [HO]
      · isplitl [Hh] <;> iassumption
      · iexact HO)⟩)
    (hinit := starts m ρ) (QY := Final m) (hfin := reads m)
    (hQ := fun s h hs => ⟨h, sem_eq_zero hs fun c sm hsm => by
      obtain rfl := only_bar sm hsm
      exact (h c).2⟩)

end Cert.KernelIdeal.Fused

end
-- ==== Proof.Frames.lean ====
/- The frames: what a final memory says of the arguments, at any floats; the printed kernel is the idealised one read at bits. -/
module

public import proofs.«01_k».proof.Proof.Launch

@[expose] public section

set_option maxRecDepth 8000

noncomputable section

namespace Cert.KernelIdeal.Fused

open Idealize.ShloMosaic Idealize.ShloMosaic.TcCoe
open Idealize.SL Idealize.SL.Sem
open Cert.KernelIdeal Cert.KernelIdeal.Gen

variable {F : FTy → Type} [FloatOps F] [Named F]

variable (m : (ℓ : Loc nD τ sig) → Buf (Elt F) ℓ) (ρ : Dev nD → PrngReg)

/-- A buffer neither the host operations nor the region writes is as launched. -/
theorem final_same {c : Dev nD} {s : MemSt nD τ sig (Elt F)} (h : Final m c s) (r : Ref sig .tc)
    (hu : Proc.devRef .tc r ∈ Pipeline.ucRefs τ sig) (h1 : r ∉ hostOps0_W) (h2 : Proc.devRef .tc r ≠ (Proc.devRef .tc main_v22 : DevRef τ sig)) :
    s.mem ((c.tc : Thread nD τ).loc r) = m ((c.tc : Thread nD τ).loc r) :=
  ((h.1 (Proc.devRef .tc r) hu).trans (left_ne (Vin m) c _ h2)).trans ((V1_of m c r h1).trans rfl)

/-- Every argument is as launched. -/
theorem final_args {c : Dev nD} {s : MemSt nD τ sig (Elt F)} (h : Final m c s) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4) :=
  ⟨final_same m h main_arg0 (by decide) (by decide) (by decide), final_same m h main_arg1 (by decide) (by decide) (by decide),
    final_same m h main_arg2 (by decide) (by decide) (by decide), final_same m h main_arg3 (by decide) (by decide) (by decide),
    final_same m h main_arg4 (by decide) (by decide) (by decide)⟩

/-- The result is the region's. -/
theorem final_result {c : Dev nD} {s : MemSt nD τ sig (Elt F)} (h : Final m c s) :
    s.mem ((c.tc : Thread nD τ).loc main_v22) = result (Vin m) c :=
  (h.1 (Proc.devRef .tc main_v22) (by decide)).trans (left_out (Vin m) c)

/-- The run: the result on every device, the arguments as launched, every semaphore at zero. -/
theorem run_main : θ_run defs (onTc (τ := τ) (main (F := F))) ⟨m, fun _ => 0, ρ⟩ (fun r =>
    (∀ c : Dev nD, r.2.mem ((c.tc : Thread nD τ).loc main_v22) = result (Vin m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun _ h => ⟨fun c => ⟨final_result m (h.1 c), final_args m (h.1 c)⟩, h.2⟩) (run_final m ρ)

end Cert.KernelIdeal.Fused

end
-- ==== Proof.Bits.lean ====
/- The two kernels' frames: the printed kernel is the idealised one read at bits. -/
module

public import proofs.«01_k».proof.Proof.Frames
public import proofs.«01_k».proof.Proof.Gen.Kernel
public import proofs.«01_k».proof.Defs

@[expose] public section

set_option maxRecDepth 8000

noncomputable section

namespace Cert.KernelIdeal.Fused

open Idealize.ShloMosaic Idealize.ShloMosaic.TcCoe
open Idealize.SL Idealize.SL.Sem
open Cert.KernelIdeal Cert.KernelIdeal.Gen

/-- A named constant read at bits: the pattern it was printed as. -/
@[instance_reducible] def atBits : Named Bits where
  named _ _ {_} b := Scalar.ofBits _ b

/-- At any floats: the program runs, its arguments end unchanged and every semaphore at zero. -/
def Quiet (F : FTy → Type) [FloatOps F] [Named F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem quiet (F : FTy → Type) [FloatOps F] [Named F] : Quiet F := fun m ρ _ =>
  (θ_run defs _ _).mono (fun _ h => ⟨fun c => (h.1 c).2, h.2⟩) (run_main m ρ)

/-- The printed kernel's frame is this at bits. -/
theorem printed_same : Cert.quiescent_Kernel (hKernel := Cert.Kernel.Gen.facts) = @Quiet Bits _ atBits := by sl_kernel_rfl

/-- The printed kernel runs, ends with its arguments unchanged and every semaphore at zero. -/
theorem frame_bits : Cert.quiescent_Kernel (hKernel := Cert.Kernel.Gen.facts) := by
  rw [printed_same]; exact @quiet Bits _ atBits

/-- The idealised kernel the same. -/
theorem frame_ideal : Cert.quiescent_KernelIdeal (hKernelIdeal := Cert.KernelIdeal.Gen.facts) := quiet Ideal

end Cert.KernelIdeal.Fused

end
-- ==== Proof.Plain.lean ====
/- The reference's frame, and the one rewrite between the two kernels' texts. -/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.Plain

open Idealize.ShloMosaic Idealize.SL.Sem

/-- The reference runs, leaves its five arguments as they were and has no counter that could end above zero. -/
theorem frame_reference : Cert.quiescent_ReferenceIdeal (hReferenceIdeal := Cert.ReferenceIdeal.Gen.facts) :=
  fun m g _ => (θ_run _ _ _).mono
    (fun r h => ⟨fun c => (h c).2, sem_eq_zero_of_no_sems rfl r.2⟩)
    (Cert.ReferenceIdeal.Value.run (F := Ideal) m g)

/-- The masked-out score, −1e9 in the kernel's text, is named −∞ in the idealized text. -/
theorem mask_named : Cert.preserves_Kernel_KernelIdeal :=
  IdealRules.named_const.statement Cert.KernelIdeal.κ "mask" .f32 0xCE6E6B28#32 ⊥ rfl

end Cert.Plain

end
-- ==== Proof.Math.lean ====
/- Attention within blocks of 64 positions, over the extended reals: what both programs compute. -/
module

public import Idealize.ShloMosaic.PureOps.Ideal

@[expose] public section

noncomputable section

namespace Cert.Math

open Idealize.ShloMosaic

/-- The factor of the scores, as its pattern reads. -/
def scale : EReal := Ideal.ofBits .f32 0x3E000000#32

/-- The masked score of query `i` and key `j`: the scaled product where both lie in one block of 64, −∞ elsewhere. -/
def score (q k : Fin 256 → Fin 64 → EReal) (i j : Fin 256) : EReal :=
  if i.val / 64 = j.val / 64 then (∑ d, q i d * k j d) * scale else ⊥

/-- The exponential of a score less its row's maximum. -/
def expo (s : Fin 256 → Fin 256 → EReal) (i j : Fin 256) : EReal :=
  Ideal.exp (s i j - Finset.fold max (Ideal.ofBits .f32 0xFF800000#32) (s i) Finset.univ)

/-- A row of weights over its sum. -/
def weight (e : Fin 256 → Fin 256 → EReal) (i j : Fin 256) : EReal := Ideal.div (e i j) (∑ j', e i j')

/-- One head's attention: queries `q`, keys `k`, values `v`. -/
def attend (q k v : Fin 256 → Fin 64 → EReal) (i : Fin 256) (d : Fin 64) : EReal :=
  ∑ j, weight (expo (score q k)) i j * v j d

/-! ## The whole computation -/

variable (x : Fin 32 → Fin 256 → Fin 512 → EReal) (wq : Fin 512 → Fin 4096 → EReal)
  (k v : Fin 32 → Fin 256 → Fin 64 → Fin 64 → EReal) (wo : Fin 4096 → Fin 512 → EReal)

/-- Column `d` of head `h` among the 4096 columns of the queries and contexts. -/
def col (h d : Fin 64) : Fin 4096 := ⟨64 * h.val + d.val, by omega⟩

/-- The queries of head `h` of batch element `b`. -/
def query (b : Fin 32) (h : Fin 64) (i : Fin 256) (d : Fin 64) : EReal := ∑ t, x b i t * wq t (col h d)

/-- The context of head `h` of batch element `b`. -/
def context (b : Fin 32) (h : Fin 64) : Fin 256 → Fin 64 → EReal :=
  attend (query x wq b h) (fun j d => k b j h d) (fun j d => v b j h d)

/-- The head and the place within it of one of the 4096 columns. -/
def headOf (n : Fin 4096) : Fin 64 := ⟨n.val / 64, by omega⟩
def placeOf (n : Fin 4096) : Fin 64 := ⟨n.val % 64, by omega⟩

/-- The output: the contexts of all heads, side by side, times the output weights. -/
def output (b : Fin 32) (i : Fin 256) (o : Fin 512) : EReal :=
  ∑ n : Fin 4096, context x wq k v b (headOf n) i (placeOf n) * wo n o

/-- Column `n` of chunk `j` among the 4096 columns. -/
def chunkCol (j : Fin 16) (n : Fin 256) : Fin 4096 := ⟨256 * j.val + n.val, by omega⟩

/-- The output chunk by chunk: sixteen chunks of four heads each. -/
theorem output_chunks (b : Fin 32) (i : Fin 256) (o : Fin 512) :
    output x wq k v wo b i o = ∑ j : Fin 16, ∑ n : Fin 256,
      context x wq k v b (headOf (chunkCol j n)) i (placeOf (chunkCol j n)) * wo (chunkCol j n) o := by
  unfold output
  rw [← Fintype.sum_prod_type']
  refine (Fintype.sum_equiv (finProdFinEquiv (m := 16) (n := 256)) _ _ fun p => ?_).symm
  have e : finProdFinEquiv p = chunkCol p.1 p.2 := Fin.ext (by simp [chunkCol, finProdFinEquiv]; omega)
  rw [e]

end Cert.Math

end
-- ==== Proof.Head.lean ====
/- The kernel's arithmetic read at an index, over the extended reals. -/
module

public import proofs.«01_k».proof.Proof.Prog
public import proofs.«01_k».proof.Proof.Math
public import Idealize.ShloMosaic.Lib.Pointwise

@[expose] public section

set_option maxRecDepth 16384

noncomputable section

namespace Cert.KernelIdeal.Fused

open Idealize.ShloMosaic Idealize.ShloMosaic.TcCoe
open Cert.KernelIdeal Cert.KernelIdeal.Gen Cert.Math

/-- The kernel's floor division by 64 of a position is the position's block. -/
theorem floorDiv64_at (w : IVec S256x256 32) (y : S256x256.Idx) (n : Fin 256) (h : w y = BitVec.ofNat 32 n.val) :
    floorDiv64 w y = BitVec.ofNat 32 (n.val / 64) := by
  pointwise [floorDiv64]
  rw [h]
  clear h
  revert n
  decide +kernel

/-- Two positions' blocks as words are equal exactly when the blocks are. -/
theorem block_eq (i j : Fin 256) : IntOp.cmpi .eq (BitVec.ofNat 32 (i.val / 64)) (BitVec.ofNat 32 (j.val / 64))
    = if i.val / 64 = j.val / 64 then 1#1 else 0#1 := by
  have e : (BitVec.ofNat 32 (i.val / 64) = BitVec.ofNat 32 (j.val / 64)) ↔ i.val / 64 = j.val / 64 := by
    constructor
    · intro h
      have h' := congrArg BitVec.toNat h
      simp only [BitVec.toNat_ofNat] at h'
      omega
    · exact congrArg _
  by_cases h : i.val / 64 = j.val / 64
  · rw [if_pos h, h]; simp [IntOp.cmpi]
  · rw [if_neg h]
    show BitVec.ofBool (BitVec.ofNat 32 (i.val / 64) == BitVec.ofNat 32 (j.val / 64)) = 0#1
    rw [beq_eq_false_iff_ne.mpr (mt e.mp h)]
    rfl

/-- The mask: zero within a block of 64, −∞ outside. -/
theorem negMask_at (i j : Fin 256) : negMask (F := Ideal) (ix2 i j) = if i.val / 64 = j.val / 64 then 0 else ⊥ := by
  have e : negMask (F := Ideal) (ix2 i j) = Scalar.select (IntOp.cmpi .eq
      (floorDiv64 (iota .tc S256x256 32 [0] iota_S256x256_d0_w32) (ix2 i j)) (floorDiv64 (iota .tc S256x256 32 [1] iota_S256x256_d1_w32) (ix2 i j)))
      (Scalar.ofBits .f32 0x00000000#32 : Ideal .f32) (Named.named κ "mask" 0xCE6E6B28#32) := rfl
  rw [e, floorDiv64_at _ _ i (by pointwise), floorDiv64_at _ _ j (by pointwise), block_eq]
  have z : (Scalar.ofBits .f32 0x00000000#32 : Ideal .f32) = 0 := Ideal.ofBits_zero_f32
  have b : (Named.named κ "mask" 0xCE6E6B28#32 : Ideal .f32) = ⊥ := IdealRules.named_const.ideal_named_scalar _ _ _ _ rfl
  rw [z, b]
  by_cases h : i.val / 64 = j.val / 64
  · rw [if_pos h, if_pos h]; rfl
  · rw [if_neg h, if_neg h]; rfl

/-- A matrix as a function of two coordinates. -/
abbrev mat {a b : Nat} (f : (⟨2, ![a, b]⟩ : Shape).Idx → EReal) (i : Fin a) (j : Fin b) : EReal := f (ix2 i j)
/-- A head's keys or values as a function of two coordinates. -/
abbrev mat4 {a b : Nat} (f : (⟨4, ![1, 1, a, b]⟩ : Shape).Idx → EReal) (i : Fin a) (j : Fin b) : EReal := f (ix4 0 0 i j)

theorem scores_at (q : FVec Ideal S256x64 .bf16) (k : Vec Ideal S1x1x256x64 .bf16) (i j : Fin 256) :
    scores q k (ix2 i j) = score (mat q) (mat4 k) i j := by
  pointwise [scores]
  rw [negMask_at]
  unfold score
  by_cases h : i.val / 64 = j.val / 64
  · rw [if_pos h, if_pos h, add_zero]; rfl
  · rw [if_neg h, if_neg h, EReal.add_bot]

theorem expScores_at (s : FVec Ideal S256x256 .f32) (i j : Fin 256) : expScores s (ix2 i j) = expo (mat s) i j := by
  pointwise [expScores]
  rfl

theorem normalize_at (e : FVec Ideal S256x256 .f32) (i j : Fin 256) : normalize e (ix2 i j) = weight (mat e) i j := by
  pointwise [normalize]
  rfl

/-- One head of the kernel is one head's attention. -/
theorem headCtx_at (q : FVec Ideal S256x64 .bf16) (k v : Vec Ideal S1x1x256x64 .bf16) (i : Fin 256) (d : Fin 64) :
    headCtx q k v (ix2 i d) = attend (mat q) (mat4 k) (mat4 v) i d := by
  pointwise [headCtx]
  unfold attend
  have e1 : mat (scores q k) = score (mat q) (mat4 k) := by funext i j; exact scores_at q k i j
  have e2 : mat (expScores (scores q k)) = expo (score (mat q) (mat4 k)) := by
    rw [← e1]; funext i j; exact expScores_at _ i j
  refine Finset.sum_congr rfl fun j _ => ?_
  rw [normalize_at, e2]

/-- The queries of a chunk. -/
theorem queries_at (x : Vec Ideal S1x256x512 .bf16) (wq : Vec Ideal S512x256 .bf16) (i n : Fin 256) :
    queries x wq (ix2 i n) = ∑ t : Fin 512, x (ix3 0 i t) * wq (ix2 t n) := by
  pointwise [queries]

/-- The output projection of a chunk's context. -/
theorem project_at (c : Vec Ideal S256x256 .bf16) (wo : Vec Ideal S256x512 .bf16) (i : Fin 256) (o : Fin 512) :
    project c wo (ix2 i o) = ∑ n : Fin 256, c (ix2 i n) * wo (ix2 n o) := by
  pointwise [project]

/-- The accumulator's first value and its next. -/
theorem accFirst_at (p : FVec Ideal S256x512 .f32) (i : Fin 256) (o : Fin 512) : accFirst p (ix3 0 i o) = p (ix2 i o) := by
  pointwise [accFirst]
theorem accNext_at (a : Vec Ideal S1x256x512 .f32) (p : FVec Ideal S256x512 .f32) (i : Fin 256) (o : Fin 512) :
    accNext a p (ix3 0 i o) = a (ix3 0 i o) + p (ix2 i o) := by
  pointwise [accNext]

end Cert.KernelIdeal.Fused

end
-- ==== Proof.Chunks.lean ====
/- The kernel's result read at an index: every chunk's contribution, summed over the mesh. -/
module

public import proofs.«01_k».proof.Proof.Head
public import proofs.«01_k».proof.Proof.Data

@[expose] public section

set_option maxRecDepth 16384

noncomputable section

namespace Cert.KernelIdeal.Fused

open Idealize.ShloMosaic Idealize.ShloMosaic.TcCoe
open Cert.KernelIdeal Cert.KernelIdeal.Gen Cert.Math

/-! ## What the kernel reads -/

/-- Head `h` of chunk `j` among the 64 heads. -/
def headAt (j : Dev nD) (h : Fin 4) : Fin 64 := ⟨4 * j.val + h.val, by have := j.isLt; have : nD = 16 := rfl; omega⟩

theorem xOf_at (X : CX Ideal) (b : Fin 2) (i : Fin 256) (t : Fin 512) : xOf X b (ix3 0 i t) = X (ix3 b i t) := by
  show X ((mX.access (rectB b)).emb (ix3 0 i t)) = _
  congr 1
  refine funext fun a => Fin.ext ?_
  match a with
  | ⟨0, _⟩ => exact Nat.add_zero _
  | ⟨1, _⟩ => exact (Nat.zero_add _).trans (Nat.one_mul _)
  | ⟨2, _⟩ => exact (Nat.zero_add _).trans (Nat.one_mul _)

/-- An index of the keys or values of one head, in the array of all heads. -/
theorem kv_emb (b : Fin 2) (j : Dev nD) (h : Fin 4) (i : Fin 256) (d : Fin 64) :
    ((kvAt b j).rect h).emb (ix4 0 0 i d) = ix4 b (headAt j h) i d := by
  refine funext fun a => Fin.ext ?_
  match a with
  | ⟨0, _⟩ => exact Nat.add_zero _
  | ⟨1, _⟩ => exact Nat.add_zero _
  | ⟨2, _⟩ => exact (Nat.zero_add _).trans (Nat.one_mul _)
  | ⟨3, _⟩ => exact (Nat.zero_add _).trans (Nat.one_mul _)

theorem kOf_at (kk : CK Ideal) (b : Fin 2) (j : Dev nD) (h : Fin 4) (i : Fin 256) (d : Fin 64) :
    kOf kk b j h (ix4 0 0 i d) = kk (ix4 b (headAt j h) i d) :=
  (show kOf kk b j h (ix4 0 0 i d) = kk (((kvAt b j).rect h).emb (ix4 0 0 i d)) from rfl).trans (congrArg kk (kv_emb b j h i d))
theorem vOf_at (vv : CV Ideal) (b : Fin 2) (j : Dev nD) (h : Fin 4) (i : Fin 256) (d : Fin 64) :
    vOf vv b j h (ix4 0 0 i d) = vv (ix4 b (headAt j h) i d) :=
  (show vOf vv b j h (ix4 0 0 i d) = vv (((kvAt b j).rect h).emb (ix4 0 0 i d)) from rfl).trans (congrArg vv (kv_emb b j h i d))

/-! ## One chunk's contribution -/

/-- The head within its chunk of one of a chunk's 256 columns, and the place within that head. -/
def subHead (n : Fin 256) : Fin 4 := ⟨n.val / 64, by omega⟩
def subPlace (n : Fin 256) : Fin 64 := ⟨n.val % 64, by omega⟩
/-- Column `d` of head `h` among a chunk's 256 columns. -/
def subCol (h : Fin 4) (d : Fin 64) : Fin 256 := ⟨64 * h.val + d.val, by omega⟩

theorem headQ_at (q : FVec Ideal S256x256 .bf16) (h : Fin 4) : mat (headQ q h) = fun i d => q (ix2 i (subCol h d)) := by
  funext i d
  show q _ = q _
  congr 1
  refine funext fun a => Fin.ext ?_
  match a with
  | ⟨0, _⟩ => exact Nat.zero_add _
  | ⟨1, _⟩ => rfl

theorem ctxOf_at (w : Fin 4 → FVec Ideal S256x64 .bf16) (i n : Fin 256) : ctxOf w (ix2 i n) = w (subHead n) (ix2 i (subPlace n)) := by
  show w _ _ = w _ _
  congr 1
  refine funext fun a => ?_
  match a with
  | ⟨0, _⟩ => rfl
  | ⟨1, _⟩ => rfl

/-- The queries of head `h` of a chunk, from the activations of batch element `b` and the chunk's weights. -/
def chunkQuery (X : S2x256x512.Idx → EReal) (w : S512x256.Idx → EReal) (b : Fin 2) (h : Fin 4) (i : Fin 256) (d : Fin 64) : EReal :=
  ∑ t : Fin 512, X (ix3 b i t) * w (ix2 t (subCol h d))

variable (WQ : BQ Ideal) (WO : BO Ideal) (X : CX Ideal) (kk : CK Ideal) (vv : CV Ideal)

/-- A chunk's context, column by column. -/
theorem ctxAt_at (b : Fin 2) (j : Dev nD) (i n : Fin 256) : ctxAt WQ X kk vv b j (ix2 i n)
    = attend (chunkQuery X (wqOf WQ j) b (subHead n)) (fun i d => kk (ix4 b (headAt j (subHead n)) i d))
        (fun i d => vv (ix4 b (headAt j (subHead n)) i d)) i (subPlace n) := by
  unfold ctxAt
  rw [ctxOf_at, headCtx_at, headQ_at]
  have e1 : (fun (i : Fin 256) (d : Fin 64) => queries (xOf X b) (wqOf WQ j) (ix2 i (subCol (subHead n) d))) = chunkQuery X (wqOf WQ j) b (subHead n) := by
    funext i d
    rw [queries_at]
    exact Finset.sum_congr rfl fun t _ => by rw [xOf_at]
  have e2 : mat4 (kOf kk b j (subHead n)) = fun i d => kk (ix4 b (headAt j (subHead n)) i d) := by
    funext i d; exact kOf_at kk b j _ i d
  have e3 : mat4 (vOf vv b j (subHead n)) = fun i d => vv (ix4 b (headAt j (subHead n)) i d) := by
    funext i d; exact vOf_at vv b j _ i d
  rw [e1, e2, e3]

/-- What a chunk adds to the output. -/
theorem contrib_at (b : Fin 2) (j : Dev nD) (i : Fin 256) (o : Fin 512) : contrib WQ WO X kk vv b j (ix2 i o)
    = ∑ n : Fin 256, ctxAt WQ X kk vv b j (ix2 i n) * woOf WO j (ix2 n o) := project_at _ _ i o

/-! ## The sum over the chunks -/

/-- After the own chunk and `n` others the accumulator is the sum over the chunks that have arrived. -/
theorem acc_at (c : Dev nD) (b : Fin 2) (i : Fin 256) (o : Fin 512) : ∀ n : ℕ, n ≤ 15 →
    acc WQ WO X kk vv c n b (ix3 0 i o) = ∑ j ∈ arr c n, contrib WQ WO X kk vv b j (ix2 i o)
  | 0, _ => by
    have e : arr c 0 = {c} := by revert c; decide +kernel
    rw [e, Finset.sum_singleton]
    exact accFirst_at _ i o
  | n + 1, hn => by
    have hs := arr_succ c ⟨n, hn⟩
    have hw := inc_new c ⟨n, hn⟩
    have hv := nth_val c ⟨n, hn⟩
    rw [← hv] at hs hw
    rw [show arr c (n + 1) = _ from hs, Finset.sum_insert hw, ← acc_at c b i o n (Nat.le_of_succ_le hn)]
    exact (accNext_at _ _ i o).trans (add_comm _ _)

/-- The accumulator at the end: the sum over all sixteen chunks. -/
theorem acc_end (c : Dev nD) (b : Fin 2) (i : Fin 256) (o : Fin 512) :
    acc WQ WO X kk vv c 15 b (ix3 0 i o) = ∑ j : Dev nD, contrib WQ WO X kk vv b j (ix2 i o) := by
  rw [acc_at WQ WO X kk vv c b i o 15 le_rfl, arr_top]

end Cert.KernelIdeal.Fused

end
-- ==== Proof.Host.lean ====
/- What the host hands to the kernel on one device, element by element, over the extended reals. -/
module

public import proofs.«01_k».proof.Proof.Launch
public import Idealize.ShloMosaic.Lib.Pointwise
public import Idealize.ShloMosaic.Lib.StableHlo.ReadAt
public import Idealize.ShloMosaic.Lib.StableHlo.RunClose
public import Idealize.ShloMosaic.Lib.DynamicIndex

@[expose] public section

set_option maxRecDepth 16384

noncomputable section

namespace Cert.KernelIdeal.Fused

open Idealize.ShloMosaic Idealize.ShloMosaic.TcCoe
open Cert.KernelIdeal Cert.KernelIdeal.Gen

variable (m : (ℓ : Loc nD τ sig) → Buf (Elt Ideal) ℓ) (c : Dev nD)

/-- The keys' and values' batch elements of device `c`: two of them, at `2 c`. -/
def batchOf (c : Dev nD) (b : Fin 2) : Fin 32 := ⟨2 * c.val + b.val, by have := c.isLt; have := b.isLt; have : nD = 16 := rfl; omega⟩

/-- A dynamic slice of two batch elements that starts at `2 c` holds the batch elements of device `c`. -/
theorem slice_at (x : S32x256x64x64.Idx → EReal) (st : Fin 4 → Int) (c : Dev nD) (h0 : st 0 = ((2 * c.val : ℕ) : Int))
    (hs : ∀ a : Fin 4, a ≠ 0 → st a = 0) (b : Fin 2) (i : Fin 256) (h : Fin 64) (d : Fin 64) :
    Host.dynamicSlice S2x256x64x64 x st sliceFits_S32x256x64x64_S2x256x64x64 (ix4 b i h d) = x (ix4 (batchOf c b) i h d) := by
  have hc : c.val < 16 := c.isLt
  have hfit : S32x256x64x64.Slices ![2 * c.val, 0, 0, 0] S2x256x64x64 := by
    refine ⟨rfl, fun a => ?_⟩
    fin_cases a
    · show 2 * c.val + 2 ≤ 32
      omega
    all_goals exact Nat.le_of_eq (Nat.zero_add _)
  rw [Host.dynamicSlice_eq_extractStridedSlice S2x256x64x64 x st ![2 * c.val, 0, 0, 0] _ hfit (fun a => by
    fin_cases a
    · exact h0
    all_goals exact hs _ (by decide))]
  unfold extractStridedSlice
  congr 1
  funext a
  fin_cases a
  · rfl
  all_goals exact Fin.ext (Nat.zero_add _)

/-- The activations the kernel gets are the argument. -/
theorem inX_eq : inX (Vin m) c = m ((c.tc : Thread nD τ).loc main_arg0) := by
  funext y
  show StableHlo.after (hostOps0 c) (V0 m c) main_v19 y = _
  unfold hostOps0
  after_reads_at

/-- The query weights the kernel gets are the argument. -/
theorem inWq_eq : inWq (Vin m) c = m ((c.tc : Thread nD τ).loc main_arg1) := by
  funext y
  show StableHlo.after (hostOps0 c) (V0 m c) main_v20 y = _
  unfold hostOps0
  after_reads_at

/-- The output weights the kernel gets are the argument. -/
theorem inWo_eq : inWo (Vin m) c = m ((c.tc : Thread nD τ).loc main_arg4) := by
  funext y
  show StableHlo.after (hostOps0 c) (V0 m c) main_v21 y = _
  unfold hostOps0
  after_reads_at

/-- Batch elements with rows and heads exchanged, then rounded: over the extended reals only the exchange shows. -/
theorem exchanged_at (x : FVec Ideal S2x256x64x64 .f32) (b : Fin 2) (h : Fin 64) (i : Fin 256) (d : Fin 64) :
    (truncf .bf16 (transpose S2x64x256x64 [0, 2, 1, 3] x transposes_S2x256x64x64_S2x64x256x64_0_2_1_3) bitsLt_bf16_f32 :
      FVec Ideal S2x64x256x64 .bf16) (ix4 b h i d) = x (ix4 b i h d) := by
  pointwise

/-- The first batch element of device `c` as the host computes it from the device's number, as a word. -/
def startWord (c : Dev nD) : IVec S_ 32 :=
  let e := muli (id (Host.remui (Host.divui (constantI S_ 32 c.word) (constantI S_ 32 1#32)) (constantI S_ 32 16#32))) (constantI S_ 32 2#32)
  select (cmpi .slt e (constantI S_ 32 0#32)) (addi e (constantI S_ 32 32#32)) e

/-- That word is `2 c`. -/
theorem startWord_eq : ((startWord c) (Shape.Idx.first h_S_)).toInt = ((2 * c.val : ℕ) : Int) := by
  revert c
  decide

/-- The keys the kernel gets are the argument's two batch elements of the device, heads before rows. -/
theorem inK_at (b : Fin 2) (h : Fin 64) (i : Fin 256) (d : Fin 64) :
    inK (Vin m) c (ix4 b h i d) = m ((c.tc : Thread nD τ).loc main_arg2) (ix4 (batchOf c b) i h d) := by
  show StableHlo.after (hostOps0 c) (V0 m c) main_v16 (ix4 b h i d) = _
  unfold hostOps0
  after_reads_simp [StableHlo.unaryIndexed_result_read, StableHlo.indexContents_cons, StableHlo.indexContents_empty, StableHlo.dropContentsCast]
  refine (exchanged_at _ b h i d).trans (slice_at _ _ c (startWord_eq c) (fun a ha => ?_) b i h d)
  fin_cases a
  · exact absurd rfl ha
  all_goals rfl

/-- The values the kernel gets are the argument's two batch elements of the device, heads before rows. -/
theorem inV_at (b : Fin 2) (h : Fin 64) (i : Fin 256) (d : Fin 64) :
    inV (Vin m) c (ix4 b h i d) = m ((c.tc : Thread nD τ).loc main_arg3) (ix4 (batchOf c b) i h d) := by
  show StableHlo.after (hostOps0 c) (V0 m c) main_v18 (ix4 b h i d) = _
  unfold hostOps0
  after_reads_simp [StableHlo.unaryIndexed_result_read, StableHlo.indexContents_cons, StableHlo.indexContents_empty, StableHlo.dropContentsCast]
  refine (exchanged_at _ b h i d).trans (slice_at _ _ c (startWord_eq c) (fun a ha => ?_) b i h d)
  fin_cases a
  · exact absurd rfl ha
  all_goals rfl

end Cert.KernelIdeal.Fused

end
-- ==== Proof.RefSteps.lean ====
/- The reference's composed term, cut into the steps of its mathematics. -/
module

public import proofs.«01_k».proof.Proof.Gen.ReferenceIdeal.Run
public import Idealize.ShloMosaic.Lib.Tactic

@[expose] public section

set_option maxRecDepth 16384

noncomputable section

namespace Cert.ReferenceIdeal.Steps

open Idealize.ShloMosaic Idealize.ShloMosaic.TcCoe
open Cert.ReferenceIdeal Cert.ReferenceIdeal.Gen

/-! ## The mask -/

/-- Each position's block of 64, as the floor division prints. -/
def blocks : IVec S256 32 :=
  select (andi (cmpi .ne (signi (iotaInDim S256 32 0)) (broadcastInDim S256 ![] bcast_S_S256 (signi (constantI S_ 32 64#32))))
      (cmpi .ne (Host.remsi (iotaInDim S256 32 0) (broadcastInDim S256 ![] bcast_S_S256 (constantI S_ 32 64#32)))
        (broadcastInDim S256 ![] bcast_S_S256 (constantI S_ 32 0#32))))
    (subi (Host.divsi (iotaInDim S256 32 0) (broadcastInDim S256 ![] bcast_S_S256 (constantI S_ 32 64#32)))
      (broadcastInDim S256 ![] bcast_S_S256 (constantI S_ 32 1#32)))
    (Host.divsi (iotaInDim S256 32 0) (broadcastInDim S256 ![] bcast_S_S256 (constantI S_ 32 64#32)))

/-- The queries' blocks, down a column, and the keys' blocks, along a row. -/
def queryBlocks : IVec S256x1 32 := broadcastInDim S256x1 ![0] bcast_S256_S256x1_0 blocks
def keyBlocks : IVec S1x256 32 := broadcastInDim S1x256 ![1] bcast_S256_S1x256_1 blocks

/-- The divisor 4, guarded against zero as the remainder prints. -/
def four : IVec S_ 32 := select (cmpi .eq (constantI S_ 32 4#32) (constantI S_ 32 0#32)) (constantI S_ 32 1#32) (constantI S_ 32 4#32)

/-- The remainder by 4 of every element, at any shape. -/
def mod4 (s : Shape) (hb : S_.BroadcastsInDim s (![] : Fin 0 → Fin s.rank)) (v : IVec s 32) : IVec s 32 :=
  select (andi (cmpi .ne (cmpi .slt (Host.remsi v (broadcastInDim s ![] hb four)) (broadcastInDim s ![] hb (constantI S_ 32 0#32)))
        (broadcastInDim s ![] hb (cmpi .slt four (constantI S_ 32 0#32))))
      (cmpi .ne (Host.remsi v (broadcastInDim s ![] hb four)) (broadcastInDim s ![] hb (constantI S_ 32 0#32))))
    (addi (Host.remsi v (broadcastInDim s ![] hb four)) (broadcastInDim s ![] hb four))
    (Host.remsi v (broadcastInDim s ![] hb four))

/-- Which key each query sees. -/
def sees : IVec S256x256 1 :=
  ori (cmpi .eq (broadcastInDim S256x256 ![0, 1] bcast_S256x1_S256x256_0_1 queryBlocks)
      (broadcastInDim S256x256 ![0, 1] bcast_S1x256_S256x256_0_1 keyBlocks))
    (cmpi .eq (broadcastInDim S256x256 ![0, 1] bcast_S1x256_S256x256_0_1 (mod4 S1x256 bcast_S_S1x256 keyBlocks))
      (broadcastInDim S256x256 ![0, 1] bcast_S256x1_S256x256_0_1 (mod4 S256x1 bcast_S_S256x1 queryBlocks)))

/-- Whether a query sees any key. -/
def keeps : IVec S1x1x256x1 1 :=
  broadcastInDim S1x1x256x1 ![2] bcast_S256_S1x1x256x1_2 (Host.reduce IntOp.ori sees (constantI S_ 1 0#1) reducesTo_S256x256_S256_d1 h_S_)

/-! ## The attention -/

variable {F : FTy → Type} [FloatOps F]

/-- All queries, by head. -/
def queries (x : FVec F S32x256x512 .f32) (wq : FVec F S512x4096 .f32) : FVec F S32x256x64x64 .f32 :=
  shapeCast S32x256x64x64 (Host.dotGeneral dot_S32x256x512_S512x4096_S32x256x4096_2_0_01_1_n_n none x wq) shapeCasts_S32x256x4096_S32x256x64x64

/-- The masked scores. -/
def scores (q k : FVec F S32x256x64x64 .f32) : FVec F S32x64x256x256 .f32 :=
  select (broadcastInDim S32x64x256x256 ![0, 1, 2, 3] bcast_S1x1x256x256_S32x64x256x256_0_1_2_3
      (broadcastInDim S1x1x256x256 ![2, 3] bcast_S256x256_S1x1x256x256_2_3 sees))
    (mulf (Host.dotGeneral dot_S32x256x64x64_S32x256x64x64_S32x64x256x256_3_3_1_1_02_02 none q k)
      (broadcastInDim S32x64x256x256 ![] bcast_S_S32x64x256x256 (constant S_ .f32 0x3E000000#32)))
    (broadcastInDim S32x64x256x256 ![] bcast_S_S32x64x256x256 (constant S_ .f32 0xFF800000#32))

/-- The exponentials of the scores less their rows' maxima. -/
def expScores (s : FVec F S32x64x256x256 .f32) : FVec F S32x64x256x256 .f32 :=
  Host.exp (subf s (broadcastInDim S32x64x256x256 ![0, 1, 2, 3] bcast_S32x64x256x1_S32x64x256x256_0_1_2_3
    (broadcastInDim S32x64x256x1 ![0, 1, 2] bcast_S32x64x256_S32x64x256x1_0_1_2
      (Host.reduce FloatOps.maximumf s (constant S_ .f32 0xFF800000#32) reducesTo_S32x64x256x256_S32x64x256_d3 h_S_))))

/-- The rows of exponentials over their sums, where a query sees any key. -/
def weights (e : FVec F S32x64x256x256 .f32) : FVec F S32x64x256x256 .f32 :=
  select (broadcastInDim S32x64x256x256 ![0, 1, 2, 3] bcast_S1x1x256x1_S32x64x256x256_0_1_2_3 keeps)
    (Host.divf e (broadcastInDim S32x64x256x256 ![0, 1, 2, 3] bcast_S32x64x256x1_S32x64x256x256_0_1_2_3
      (select (broadcastInDim S32x64x256x1 ![0, 1, 2, 3] bcast_S1x1x256x1_S32x64x256x1_0_1_2_3 keeps)
        (broadcastInDim S32x64x256x1 ![0, 1, 2] bcast_S32x64x256_S32x64x256x1_0_1_2
          (Host.reduceAdd e (constant S_ .f32 0x00000000#32) reducesTo_S32x64x256x256_S32x64x256_d3 h_S_))
        (broadcastInDim S32x64x256x1 ![] bcast_S_S32x64x256x1 (constant S_ .f32 0x3F800000#32)))))
    (broadcastInDim S32x64x256x256 ![] bcast_S_S32x64x256x256 (constant S_ .f32 0x00000000#32))

/-- The contexts, all heads side by side. -/
def contexts (w : FVec F S32x64x256x256 .f32) (v : FVec F S32x256x64x64 .f32) : FVec F S32x256x4096 .f32 :=
  shapeCast S32x256x4096 (transpose S32x256x64x64 [0, 3, 1, 2]
    (Host.dotGeneral dot_S32x256x64x64_S32x64x256x256_S32x64x64x256_1_3_3_2_02_01 none v w) transposes_S32x64x64x256_S32x256x64x64_0_3_1_2)
    shapeCasts_S32x256x64x64_S32x256x4096

/-- The reference. -/
def total (x : FVec F S32x256x512 .f32) (wq : FVec F S512x4096 .f32) (k v : FVec F S32x256x64x64 .f32) (wo : FVec F S4096x512 .f32) :
    FVec F S32x256x512 .f32 :=
  Host.dotGeneral dot_S32x256x4096_S4096x512_S32x256x512_2_0_01_1_n_n none (contexts (weights (expScores (scores (queries x wq) k))) v) wo

/-- What the reference's run leaves in its result is these steps of its arguments. -/
theorem total_eq (m : (ℓ : Loc nD τ sig) → Buf (Elt F) ℓ) (c : Dev nD) : Value.res_main_v39 m c
    = total (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  sl_kernel_rfl

end Cert.ReferenceIdeal.Steps

end
-- ==== Proof.RefAt.lean ====
/- The reference's steps read at an index, over the extended reals. -/
module

public import proofs.«01_k».proof.Proof.RefSteps
public import proofs.«01_k».proof.Proof.Math
public import Idealize.ShloMosaic.Lib.Pointwise
public import Idealize.ShloMosaic.Lib.Routing.OpsOrder

@[expose] public section

set_option maxRecDepth 16384

noncomputable section

namespace Cert.ReferenceIdeal.Steps

open Idealize.ShloMosaic Idealize.ShloMosaic.TcCoe
open Cert.ReferenceIdeal Cert.ReferenceIdeal.Gen Cert.Math

/-! ## The mask -/

theorem blocks_at (i : Fin 256) : blocks (ix1 i) = BitVec.ofNat 32 (i.val / 64) := by
  pointwise [blocks]
  revert i
  decide +kernel

/-- The block of a position. -/
def blk (i : Fin 256) : Fin 4 := ⟨i.val / 64, by omega⟩

/-- The remainder by 4 leaves a number below 4 as it is, at any shape. -/
theorem mod4_at (s : Shape) (hb : S_.BroadcastsInDim s (![] : Fin 0 → Fin s.rank)) (v : IVec s 32) (y : s.Idx) (n : Fin 4)
    (h : v y = BitVec.ofNat 32 n.val) : mod4 s hb v y = BitVec.ofNat 32 n.val := by
  have e : ∀ w : IVec S_ 32, broadcastInDim s ![] hb w y = w ix0 := fun w => congrArg w (funext fun a => a.elim0)
  have e' : ∀ w : IVec S_ 1, broadcastInDim s ![] hb w y = w ix0 := fun w => congrArg w (funext fun a => a.elim0)
  unfold mod4
  simp only [ValueIdx.select_apply, andi_apply, cmpi_apply, addi_apply, Host.remsi_apply, e, e', h]
  clear h e e'
  pointwise [four]
  revert n
  decide +kernel

/-- A query sees a key exactly when both lie in one block. -/
theorem sees_at (i j : Fin 256) : sees (ix2 i j) = if i.val / 64 = j.val / 64 then 1#1 else 0#1 := by
  have hq : queryBlocks (ix2 i 0) = BitVec.ofNat 32 (blk i).val := by
    pointwise [queryBlocks]; exact blocks_at i
  have hk : keyBlocks (ix2 0 j) = BitVec.ofNat 32 (blk j).val := by
    pointwise [keyBlocks]; exact blocks_at j
  pointwise [sees]
  rw [mod4_at _ _ _ _ _ hk, mod4_at _ _ _ _ _ hq, hq, hk]
  show _ = if (blk i).val = (blk j).val then 1#1 else 0#1
  generalize blk i = a
  generalize blk j = b
  revert a b
  decide +kernel

/-- Every query sees a key: its own position's. -/
theorem keeps_at (i : Fin 256) : keeps (ix4 0 0 i 0) = 1#1 := by
  pointwise [keeps]
  exact (Routing.fold_ori _ _).mpr ⟨i, Finset.mem_univ _, by rw [sees_at, if_pos rfl]⟩

/-! ## The attention -/

/-- The least pattern is −∞. -/
theorem lowest : Ideal.ofBits .f32 0xFF800000#32 = ⊥ := by
  simp [Ideal.ofBits, Ideal.ieee]

/-- An array of heads as a function of its last two coordinates, for one batch element and head. -/
abbrev heads {a b : Nat} (f : (⟨4, ![32, 64, a, b]⟩ : Shape).Idx → EReal) (n : Fin 32) (h : Fin 64) (i : Fin a) (j : Fin b) : EReal := f (ix4 n h i j)
/-- The same of an array that has the position before the head. -/
abbrev rows {a b : Nat} (f : (⟨4, ![32, a, 64, b]⟩ : Shape).Idx → EReal) (n : Fin 32) (h : Fin 64) (i : Fin a) (j : Fin b) : EReal := f (ix4 n i h j)
/-- Arrays of two and of three axes as functions of their coordinates. -/
abbrev fn2 {a b : Nat} (f : (⟨2, ![a, b]⟩ : Shape).Idx → EReal) (i : Fin a) (j : Fin b) : EReal := f (ix2 i j)
abbrev fn3 {a b c : Nat} (f : (⟨3, ![a, b, c]⟩ : Shape).Idx → EReal) (i : Fin a) (j : Fin b) (k : Fin c) : EReal := f (ix3 i j k)
abbrev fn4 {a b c d : Nat} (f : (⟨4, ![a, b, c, d]⟩ : Shape).Idx → EReal) (i : Fin a) (j : Fin b) (k : Fin c) (l : Fin d) : EReal := f (ix4 i j k l)

theorem queries_at (x : FVec Ideal S32x256x512 .f32) (wq : FVec Ideal S512x4096 .f32) (b : Fin 32) (h : Fin 64) :
    rows (queries x wq) b h = query (fn3 x) (fn2 wq) b h := by
  funext i d
  show queries x wq (ix4 b i h d) = _
  pointwise [queries]
  refine Finset.sum_congr rfl fun t _ => ?_
  rw [show (⟨h.val * 64 + d.val, by omega⟩ : Fin 4096) = col h d from Fin.ext (by show h.val * 64 + d.val = 64 * h.val + d.val; omega)]

theorem scores_at (q k : FVec Ideal S32x256x64x64 .f32) (b : Fin 32) (h : Fin 64) :
    heads (scores q k) b h = score (rows q b h) (rows k b h) := by
  funext i j
  show scores q k (ix4 b h i j) = _
  pointwise [scores]
  rw [sees_at]
  unfold score
  by_cases e : i.val / 64 = j.val / 64
  · rw [if_pos e, if_pos e]; rfl
  · rw [if_neg e, if_neg e]; exact lowest

theorem expScores_at (s : FVec Ideal S32x64x256x256 .f32) (b : Fin 32) (h : Fin 64) :
    heads (expScores s) b h = expo (heads s b h) := by
  funext i j
  show expScores s (ix4 b h i j) = _
  pointwise [expScores]
  rfl

theorem weights_at (e : FVec Ideal S32x64x256x256 .f32) (b : Fin 32) (h : Fin 64) :
    heads (weights e) b h = weight (heads e b h) := by
  funext i j
  show weights e (ix4 b h i j) = _
  pointwise [weights]
  rw [keeps_at]
  rfl

theorem contexts_at (w : FVec Ideal S32x64x256x256 .f32) (v : FVec Ideal S32x256x64x64 .f32) (b : Fin 32) (i : Fin 256) (n : Fin 4096) :
    contexts w v (ix3 b i n) = ∑ j, heads w b (headOf n) i j * rows v b (headOf n) j (placeOf n) := by
  pointwise [contexts]
  exact Finset.sum_congr rfl fun j _ => mul_comm _ _

/-- The reference computes the output. -/
theorem total_at (x : FVec Ideal S32x256x512 .f32) (wq : FVec Ideal S512x4096 .f32) (k v : FVec Ideal S32x256x64x64 .f32)
    (wo : FVec Ideal S4096x512 .f32) (b : Fin 32) (i : Fin 256) (o : Fin 512) :
    total x wq k v wo (ix3 b i o) = output (fn3 x) (fn2 wq) (fn4 k) (fn4 v) (fn2 wo) b i o := by
  pointwise [total]
  unfold output
  refine Finset.sum_congr rfl fun n _ => ?_
  rw [contexts_at, weights_at, expScores_at, scores_at, queries_at]
  rfl

end Cert.ReferenceIdeal.Steps

end
-- ==== Proof.Join.lean ====
/- The kernel's results are the blocks of the reference's result, over the extended reals. -/
module

public import proofs.«01_k».proof.Defs
public import proofs.«01_k».proof.Proof.Chunks
public import proofs.«01_k».proof.Proof.Host
public import proofs.«01_k».proof.Proof.Frames
public import proofs.«01_k».proof.Proof.RefAt
public import Idealize.ShloMosaic.Lib.LayoutAt

@[expose] public section

set_option maxRecDepth 16384

noncomputable section

namespace Cert.KernelIdeal.Fused

open Idealize.ShloMosaic Idealize.ShloMosaic.TcCoe Idealize.SL.Sem
open Cert.KernelIdeal Cert.KernelIdeal.Gen Cert.Math Cert.ReferenceIdeal.Steps

/-! ## The columns of a chunk -/

theorem head_chunk (j : Dev nD) (n : Fin 256) : headOf (chunkCol j n) = headAt j (subHead n) :=
  Fin.ext (by show (256 * j.val + n.val) / 64 = 4 * j.val + n.val / 64; omega)
theorem place_chunk (j : Dev nD) (n : Fin 256) : placeOf (chunkCol j n) = subPlace n :=
  Fin.ext (by show (256 * j.val + n.val) % 64 = n.val % 64; omega)
theorem col_chunk (j : Dev nD) (h : Fin 4) (d : Fin 64) : Math.col (headAt j h) d = chunkCol j (subCol h d) :=
  Fin.ext (by show 64 * (4 * j.val + h.val) + d.val = 256 * j.val + (64 * h.val + d.val); omega)

/-! ## The blocks of the arrays -/

/-- Two batch elements per device. -/
theorem block_rows_at (x : (⟨3, ![32, 256, 512]⟩ : Shape).Idx → EReal) (c : Dev nD) (b : Fin 2) (i : Fin 256) (t : Fin 512) :
    Layout.block ⟨3, ![2, 256, 512]⟩ ⟨3, ![32, 256, 512]⟩ 0 16 c x (by decide) (ix3 b i t) = x (ix3 (batchOf c b) i t) := by
  rw [Layout.block_apply]
  congr 1
  funext a
  apply Fin.ext
  rw [Layout.Tiles.idx_val]
  fin_cases a
  · show c.val * 2 + b.val = 2 * c.val + b.val
    omega
  all_goals rfl

/-- A chunk of 256 columns of the query weights per device. -/
theorem block_cols_at (w : (⟨2, ![512, 4096]⟩ : Shape).Idx → EReal) (j : Dev nD) (t : Fin 512) (n : Fin 256) :
    Layout.block ⟨2, ![512, 256]⟩ ⟨2, ![512, 4096]⟩ 1 16 j w (by decide) (ix2 t n) = w (ix2 t (chunkCol j n)) := by
  rw [Layout.block_apply]
  congr 1
  funext a
  apply Fin.ext
  rw [Layout.Tiles.idx_val]
  fin_cases a
  · rfl
  · show j.val * 256 + n.val = 256 * j.val + n.val
    omega

/-- A chunk of 256 rows of the output weights per device. -/
theorem block_out_at (w : (⟨2, ![4096, 512]⟩ : Shape).Idx → EReal) (j : Dev nD) (n : Fin 256) (o : Fin 512) :
    Layout.block ⟨2, ![256, 512]⟩ ⟨2, ![4096, 512]⟩ 0 16 j w (by decide) (ix2 n o) = w (ix2 (chunkCol j n) o) := by
  rw [Layout.block_apply]
  congr 1
  funext a
  apply Fin.ext
  rw [Layout.Tiles.idx_val]
  fin_cases a
  · show j.val * 256 + n.val = 256 * j.val + n.val
    omega
  · rfl

/-! ## The result -/

section Result

variable (m : (ℓ : Loc nD τ sig) → Buf (Elt Ideal) ℓ)
  (x : (⟨3, ![32, 256, 512]⟩ : Shape).Idx → EReal) (wq : (⟨2, ![512, 4096]⟩ : Shape).Idx → EReal) (k v : (⟨4, ![32, 256, 64, 64]⟩ : Shape).Idx → EReal)
  (wo : (⟨2, ![4096, 512]⟩ : Shape).Idx → EReal)

/-- The arguments on the devices are the blocks of one set of arrays; the keys and values lie whole on every device. -/
structure Shared : Prop where
  x : ∀ c : Dev nD, m ((c.tc : Thread nD τ).loc main_arg0) = Layout.block ⟨3, ![2, 256, 512]⟩ ⟨3, ![32, 256, 512]⟩ 0 16 c x (by decide)
  wq : ∀ c : Dev nD, m ((c.tc : Thread nD τ).loc main_arg1) = Layout.block ⟨2, ![512, 256]⟩ ⟨2, ![512, 4096]⟩ 1 16 c wq (by decide)
  k : ∀ c : Dev nD, m ((c.tc : Thread nD τ).loc main_arg2) = k
  v : ∀ c : Dev nD, m ((c.tc : Thread nD τ).loc main_arg3) = v
  wo : ∀ c : Dev nD, m ((c.tc : Thread nD τ).loc main_arg4) = Layout.block ⟨2, ![256, 512]⟩ ⟨2, ![4096, 512]⟩ 0 16 c wo (by decide)

variable {m x wq k v wo} (H : Shared m x wq k v wo)
include H

/-- The queries of a chunk are the queries of its heads. -/
theorem query_chunk (c j : Dev nD) (b : Fin 2) (h : Fin 4) :
    chunkQuery (inX (Vin m) c) (wqOf (allQ (Vin m)) j) b h = query (fn3 x) (fn2 wq) (batchOf c b) (headAt j h) := by
  funext i d
  have e : wqOf (allQ (Vin m)) j = inWq (Vin m) j := read_gatherQ (inWq (Vin m)) j
  unfold chunkQuery query
  refine Finset.sum_congr rfl fun t _ => ?_
  rw [e, inX_eq, inWq_eq, H.x c, H.wq j, block_rows_at, block_cols_at, col_chunk]

/-- A chunk's context is the context of its heads. -/
theorem context_chunk (c j : Dev nD) (b : Fin 2) (i n : Fin 256) :
    ctxAt (allQ (Vin m)) (inX (Vin m) c) (inK (Vin m) c) (inV (Vin m) c) b j (ix2 i n)
      = context (fn3 x) (fn2 wq) (fn4 k) (fn4 v) (batchOf c b) (headOf (chunkCol j n)) i (placeOf (chunkCol j n)) := by
  have e1 : (fun (i : Fin 256) (d : Fin 64) => (inK (Vin m) c (ix4 b (headAt j (subHead n)) i d) : EReal))
      = fun i d => fn4 k (batchOf c b) i (headAt j (subHead n)) d := by
    funext i d; rw [inK_at, H.k c]
  have e2 : (fun (i : Fin 256) (d : Fin 64) => (inV (Vin m) c (ix4 b (headAt j (subHead n)) i d) : EReal))
      = fun i d => fn4 v (batchOf c b) i (headAt j (subHead n)) d := by
    funext i d; rw [inV_at, H.v c]
  rw [ctxAt_at, query_chunk H c j b (subHead n), head_chunk, place_chunk]
  unfold context
  rw [← e1, ← e2]

/-- The output weights of a chunk are its rows of the whole. -/
theorem out_chunk (j : Dev nD) (n : Fin 256) (o : Fin 512) : woOf (allO (Vin m)) j (ix2 n o) = fn2 wo (chunkCol j n) o := by
  have e : woOf (allO (Vin m)) j = inWo (Vin m) j := read_gatherO (inWo (Vin m)) j
  rw [e, inWo_eq, H.wo j, block_out_at]

/-- Every device's result is its block of the reference's result. -/
theorem result_block (c : Dev nD) :
    result (Vin m) c = Layout.block ⟨3, ![2, 256, 512]⟩ ⟨3, ![32, 256, 512]⟩ 0 16 c (total (F := Ideal) x wq k v wo) (by decide) := by
  funext y
  obtain ⟨b, i, o, rfl⟩ : ∃ (b : Fin 2) (i : Fin 256) (o : Fin 512), y = ix3 b i o := ⟨_, _, _, eq_ix3 y⟩
  rw [block_rows_at, total_at, output_chunks]
  have e : inB (ix3 b i o) = ix3 0 i o := by
    funext a
    match a with
    | ⟨0, _⟩ => rfl
    | ⟨1, _⟩ => rfl
    | ⟨2, _⟩ => rfl
  show acc (allQ (Vin m)) (allO (Vin m)) (inX (Vin m) c) (inK (Vin m) c) (inV (Vin m) c) c 15 b (inB (ix3 b i o)) = _
  rw [e, acc_end]
  refine Finset.sum_congr rfl fun j _ => ?_
  rw [contrib_at]
  refine Finset.sum_congr rfl fun n _ => ?_
  rw [context_chunk H, out_chunk H]

end Result

/-- The idealised kernel computes the reference: from arguments that are the blocks of the reference's, every device's result is its
    block of the reference's result, and both leave their arguments as they were. -/
theorem computes_reference : Cert.algebraic_KernelIdeal_ReferenceIdeal (hKernelIdeal := Cert.KernelIdeal.Gen.facts)
    (hReferenceIdeal := Cert.ReferenceIdeal.Gen.facts) := by
  intro m g m' g' _ H
  have S : Shared m _ _ _ _ _ := ⟨fun c => (H c).1, fun c => (H c).2.1, fun c => (H c).2.2.1, fun c => (H c).2.2.2.1, fun c => (H c).2.2.2.2⟩
  refine ⟨_, (θ_run _ _ _).mono (fun r h c => ⟨(h.1 c).1.trans (result_block S c), (h.1 c).2⟩) (run_main (F := Ideal) m g),
    (θ_run _ _ _).mono (fun r h => ⟨(h 0).1.trans (total_eq m' 0), (h 0).2⟩) (Cert.ReferenceIdeal.Value.run (F := Ideal) m' g')⟩

end Cert.KernelIdeal.Fused

end
-- ==== Proof.lean ====
/- The certificate's claims, each from the module that proves it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Bits
public import proofs.«01_k».proof.Proof.Plain
public import proofs.«01_k».proof.Proof.Join
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.KernelIdeal.Fused.frame_bits, Cert.KernelIdeal.Fused.frame_ideal, Cert.Plain.frame_reference,
    Cert.Plain.mask_named, Cert.KernelIdeal.Fused.computes_reference⟩

end Cert.Proof

end
